-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1x64x512 : Shape := ⟨4, ![32, 1, 64, 512]⟩
abbrev S32x1x64x64 : Shape := ⟨4, ![32, 1, 64, 64]⟩
abbrev S32x512x512 : Shape := ⟨3, ![32, 512, 512]⟩
abbrev S32x128x128 : Shape := ⟨3, ![32, 128, 128]⟩
abbrev S32x16x128 : Shape := ⟨3, ![32, 16, 128]⟩
abbrev S32 : Shape := ⟨1, ![32]⟩
abbrev S32x1x512 : Shape := ⟨3, ![32, 1, 512]⟩
abbrev S32x1x4 : Shape := ⟨3, ![32, 1, 4]⟩
abbrev S32x1x64 : Shape := ⟨3, ![32, 1, 64]⟩
abbrev S32x128x128x2 : Shape := ⟨4, ![32, 128, 128, 2]⟩
abbrev S_ : Shape := ⟨0, ![]⟩

class Facts : Prop where
  splits_S32x128x128_w32_S32x128x128x2_w16 : S32x128x128.SplitsWords 32 S32x128x128x2 16
  bcast_S_S32x512x512 : S_.BroadcastsInDim S32x512x512 (![] : Fin 0 → Fin S32x512x512.rank)
  bcast_S_S32x1x512 : S_.BroadcastsInDim S32x1x512 (![] : Fin 0 → Fin S32x1x512.rank)
  bcast_S_S32x1x64x512 : S_.BroadcastsInDim S32x1x64x512 (![] : Fin 0 → Fin S32x1x64x512.rank)
  bcast_S_S32x1x64x64 : S_.BroadcastsInDim S32x1x64x64 (![] : Fin 0 → Fin S32x1x64x64.rank)
  bcast_S_S32x128x128x2 : S_.BroadcastsInDim S32x128x128x2 (![] : Fin 0 → Fin S32x128x128x2.rank)
  bcast_S_S32x16x128 : S_.BroadcastsInDim S32x16x128 (![] : Fin 0 → Fin S32x16x128.rank)
  bcast_S_S32x1x4 : S_.BroadcastsInDim S32x1x4 (![] : Fin 0 → Fin S32x1x4.rank)
  bcast_S_S32x1x64 : S_.BroadcastsInDim S32x1x64 (![] : Fin 0 → Fin S32x1x64.rank)

variable [Facts]

def fn_part1 {F : FTy → Type} [FloatOps F] (main_arg4 : FVec F S32x16x128 .f32) (main_arg7 : FVec F S32x1x4 .f32) (main_arg8 : FVec F S32x1x64 .bf16) (main_v5 : IVec S32x512x512 1) (main_v10 : IVec S32x1x512 1) (main_v13 : IVec S32x1x64x512 1) (main_v16 : IVec S32x1x64x64 1) (main_v17 : FVec F S32x128x128x2 .bf16) : IVec S32x512x512 1 × IVec S32x1x512 1 × IVec S32x1x64x512 1 × IVec S32x1x64x64 1 × IVec S32x128x128x2 1 × IVec S32x16x128 1 × IVec S32x1x4 1 × IVec S32x1x64 1 :=
  let main_cst_4 : FVec F S_ .bf16 := constant S_ .bf16 0x7F80#16
  let main_v18 : FVec F S32x128x128x2 .bf16 := broadcastInDim S32x128x128x2 ![] bcast_S_S32x128x128x2 main_cst_4
  let main_v19 : IVec S32x128x128x2 1 := cmpf .olt main_v17 main_v18
  let main_v20 : FVec F S32x16x128 .f32 := Host.absf main_arg4
  let main_cst_5 : FVec F S_ .f32 := constant S_ .f32 0x7F800000#32
  let main_v21 : FVec F S32x16x128 .f32 := broadcastInDim S32x16x128 ![] bcast_S_S32x16x128 main_cst_5
  let main_v22 : IVec S32x16x128 1 := cmpf .olt main_v20 main_v21
  let main_v23 : FVec F S32x1x4 .f32 := Host.absf main_arg7
  let main_cst_6 : FVec F S_ .f32 := constant S_ .f32 0x7F800000#32
  let main_v24 : FVec F S32x1x4 .f32 := broadcastInDim S32x1x4 ![] bcast_S_S32x1x4 main_cst_6
  let main_v25 : IVec S32x1x4 1 := cmpf .olt main_v23 main_v24
  let main_v26 : FVec F S32x1x64 .bf16 := Host.absf main_arg8
  let main_cst_7 : FVec F S_ .bf16 := constant S_ .bf16 0x7F80#16
  let main_v27 : FVec F S32x1x64 .bf16 := broadcastInDim S32x1x64 ![] bcast_S_S32x1x64 main_cst_7
  let main_v28 : IVec S32x1x64 1 := cmpf .olt main_v26 main_v27
  (main_v5, main_v10, main_v13, main_v16, main_v19, main_v22, main_v25, main_v28)

def fn {F : FTy → Type} [FloatOps F] (main_arg0 : FVec F S32x1x64x512 .bf16) (main_arg1 : FVec F S32x1x64x64 .bf16) (main_arg2 : IVec S32x512x512 8) (main_arg3 : IVec S32x128x128 32) (main_arg4 : FVec F S32x16x128 .f32) (main_arg5 : IVec S32 32) (main_arg6 : IVec S32x1x512 8) (main_arg7 : FVec F S32x1x4 .f32) (main_arg8 : FVec F S32x1x64 .bf16) (main_arg9 : IVec S32x1x512 32) : IVec S32x512x512 1 × IVec S32x1x512 1 × IVec S32x1x64x512 1 × IVec S32x1x64x64 1 × IVec S32x128x128x2 1 × IVec S32x16x128 1 × IVec S32x1x4 1 × IVec S32x1x64 1 :=
  let main_v0 : FVec F S32x128x128x2 .bf16 := (fun x => bitcastToFloat .bf16 (Host.bitcastConvertNarrow S32x128x128x2 16 x splits_S32x128x128_w32_S32x128x128x2_w16)) main_arg3
  let main_c : IVec S_ 8 := constantI S_ 8 127#8
  let main_v1 : IVec S32x512x512 8 := broadcastInDim S32x512x512 ![] bcast_S_S32x512x512 main_c
  let main_v2 : IVec S32x512x512 1 := cmpi .ne main_arg2 main_v1
  let main_c_0 : IVec S_ 8 := constantI S_ 8 255#8
  let main_v3 : IVec S32x512x512 8 := broadcastInDim S32x512x512 ![] bcast_S_S32x512x512 main_c_0
  let main_v4 : IVec S32x512x512 1 := cmpi .ne main_arg2 main_v3
  let main_v5 : IVec S32x512x512 1 := andi main_v2 main_v4
  let main_c_1 : IVec S_ 8 := constantI S_ 8 127#8
  let main_v6 : IVec S32x1x512 8 := broadcastInDim S32x1x512 ![] bcast_S_S32x1x512 main_c_1
  let main_v7 : IVec S32x1x512 1 := cmpi .ne main_arg6 main_v6
  let main_c_2 : IVec S_ 8 := constantI S_ 8 255#8
  let main_v8 : IVec S32x1x512 8 := broadcastInDim S32x1x512 ![] bcast_S_S32x1x512 main_c_2
  let main_v9 : IVec S32x1x512 1 := cmpi .ne main_arg6 main_v8
  let main_v10 : IVec S32x1x512 1 := andi main_v7 main_v9
  let main_v11 : FVec F S32x1x64x512 .bf16 := Host.absf main_arg0
  let main_cst : FVec F S_ .bf16 := constant S_ .bf16 0x7F80#16
  let main_v12 : FVec F S32x1x64x512 .bf16 := broadcastInDim S32x1x64x512 ![] bcast_S_S32x1x64x512 main_cst
  let main_v13 : IVec S32x1x64x512 1 := cmpf .olt main_v11 main_v12
  let main_v14 : FVec F S32x1x64x64 .bf16 := Host.absf main_arg1
  let main_cst_3 : FVec F S_ .bf16 := constant S_ .bf16 0x7F80#16
  let main_v15 : FVec F S32x1x64x64 .bf16 := broadcastInDim S32x1x64x64 ![] bcast_S_S32x1x64x64 main_cst_3
  let main_v16 : IVec S32x1x64x64 1 := cmpf .olt main_v14 main_v15
  let main_v17 : FVec F S32x128x128x2 .bf16 := Host.absf main_v0
  fn_part1 (F := F) main_arg4 main_arg7 main_arg8 main_v5 main_v10 main_v13 main_v16 main_v17
-- ==== Kernel.lean ====
abbrev S32x1x64x512 : Shape := ⟨4, ![32, 1, 64, 512]⟩
abbrev S32x1x64x64 : Shape := ⟨4, ![32, 1, 64, 64]⟩
abbrev S32x512x512 : Shape := ⟨3, ![32, 512, 512]⟩
abbrev S32x128x128 : Shape := ⟨3, ![32, 128, 128]⟩
abbrev S32x16x128 : Shape := ⟨3, ![32, 16, 128]⟩
abbrev S32 : Shape := ⟨1, ![32]⟩
abbrev S32x1x512 : Shape := ⟨3, ![32, 1, 512]⟩
abbrev S32x1x4 : Shape := ⟨3, ![32, 1, 4]⟩
abbrev S32x1x64 : Shape := ⟨3, ![32, 1, 64]⟩
abbrev S32x4x128 : Shape := ⟨3, ![32, 4, 128]⟩
abbrev S32x64x512 : Shape := ⟨3, ![32, 64, 512]⟩
abbrev S32x64x64 : Shape := ⟨3, ![32, 64, 64]⟩
abbrev S32x64x1 : Shape := ⟨3, ![32, 64, 1]⟩
abbrev S1x64x512 : Shape := ⟨3, ![1, 64, 512]⟩
abbrev S1x64x64 : Shape := ⟨3, ![1, 64, 64]⟩
abbrev S1x512x512 : Shape := ⟨3, ![1, 512, 512]⟩
abbrev S1x128x128 : Shape := ⟨3, ![1, 128, 128]⟩
abbrev S1x16x128 : Shape := ⟨3, ![1, 16, 128]⟩
abbrev S1x4x128 : Shape := ⟨3, ![1, 4, 128]⟩
abbrev S1x1x512 : Shape := ⟨3, ![1, 1, 512]⟩
abbrev S1x1x4 : Shape := ⟨3, ![1, 1, 4]⟩
abbrev S1x1x64 : Shape := ⟨3, ![1, 1, 64]⟩
abbrev S1x64x1 : Shape := ⟨3, ![1, 64, 1]⟩
abbrev S64x512 : Shape := ⟨2, ![64, 512]⟩
abbrev S64x64 : Shape := ⟨2, ![64, 64]⟩
abbrev S1x4 : Shape := ⟨2, ![1, 4]⟩
abbrev S1x1x128 : Shape := ⟨3, ![1, 1, 128]⟩
abbrev S1x128 : Shape := ⟨2, ![1, 128]⟩
abbrev S1x1 : Shape := ⟨2, ![1, 1]⟩
abbrev S1x512 : Shape := ⟨2, ![1, 512]⟩
abbrev S64 : Shape := ⟨1, ![64]⟩
abbrev S64x1 : Shape := ⟨2, ![64, 1]⟩
abbrev S1x64 : Shape := ⟨2, ![1, 64]⟩
abbrev S512x512 : Shape := ⟨2, ![512, 512]⟩
abbrev S1x32x128 : Shape := ⟨3, ![1, 32, 128]⟩
abbrev S32x128 : Shape := ⟨2, ![32, 128]⟩
abbrev S64x128 : Shape := ⟨2, ![64, 128]⟩
abbrev S128x128 : Shape := ⟨2, ![128, 128]⟩
abbrev S1 : Shape := ⟨1, ![1]⟩
abbrev S512x128 : Shape := ⟨2, ![512, 128]⟩
abbrev S1x64x128 : Shape := ⟨3, ![1, 64, 128]⟩

abbrev nBuf : Space → Nat
  | .hbm => 16
  | .vmem => 22
  | .smem => 1
  | _ => 0

abbrev bufTy : (tb : Table) → Fin (tcTables nBuf tb) → BufTy
  | .hbm, ⟨0, _⟩ => ⟨S32x1x64x512, .bf16⟩
  | .hbm, ⟨1, _⟩ => ⟨S32x1x64x64, .bf16⟩
  | .hbm, ⟨2, _⟩ => ⟨S32x512x512, .i8⟩
  | .hbm, ⟨3, _⟩ => ⟨S32x128x128, .i32⟩
  | .hbm, ⟨4, _⟩ => ⟨S32x16x128, .f32⟩
  | .hbm, ⟨5, _⟩ => ⟨S32x1x512, .i8⟩
  | .hbm, ⟨6, _⟩ => ⟨S32x1x4, .f32⟩
  | .hbm, ⟨7, _⟩ => ⟨S32x1x64, .bf16⟩
  | .hbm, ⟨8, _⟩ => ⟨S32x1x512, .i32⟩
  | .hbm, ⟨9, _⟩ => ⟨S32x512x512, .fp8e4m3⟩
  | .hbm, ⟨10, _⟩ => ⟨S32x1x512, .fp8e4m3⟩
  | .hbm, ⟨11, _⟩ => ⟨S32x4x128, .i32⟩
  | .hbm, ⟨12, _⟩ => ⟨S32x64x512, .bf16⟩
  | .hbm, ⟨13, _⟩ => ⟨S32x64x64, .bf16⟩
  | .hbm, ⟨14, _⟩ => ⟨S32x64x512, .bf16⟩
  | .hbm, ⟨15, _⟩ => ⟨S32x64x1, .f32⟩
  | .local _ .vmem, ⟨0, _⟩ => ⟨S1x64x512, .bf16⟩
  | .local _ .vmem, ⟨1, _⟩ => ⟨S1x64x512, .bf16⟩
  | .local _ .vmem, ⟨2, _⟩ => ⟨S1x64x64, .bf16⟩
  | .local _ .vmem, ⟨3, _⟩ => ⟨S1x64x64, .bf16⟩
  | .local _ .vmem, ⟨4, _⟩ => ⟨S1x512x512, .fp8e4m3⟩
  | .local _ .vmem, ⟨5, _⟩ => ⟨S1x512x512, .fp8e4m3⟩
  | .local _ .vmem, ⟨6, _⟩ => ⟨S1x128x128, .i32⟩
  | .local _ .vmem, ⟨7, _⟩ => ⟨S1x128x128, .i32⟩
  | .local _ .vmem, ⟨8, _⟩ => ⟨S1x16x128, .f32⟩
  | .local _ .vmem, ⟨9, _⟩ => ⟨S1x16x128, .f32⟩
  | .local _ .vmem, ⟨10, _⟩ => ⟨S1x4x128, .i32⟩
  | .local _ .vmem, ⟨11, _⟩ => ⟨S1x4x128, .i32⟩
  | .local _ .vmem, ⟨12, _⟩ => ⟨S1x1x512, .fp8e4m3⟩
  | .local _ .vmem, ⟨13, _⟩ => ⟨S1x1x512, .fp8e4m3⟩
  | .local _ .vmem, ⟨14, _⟩ => ⟨S1x1x4, .f32⟩
  | .local _ .vmem, ⟨15, _⟩ => ⟨S1x1x4, .f32⟩
  | .local _ .vmem, ⟨16, _⟩ => ⟨S1x1x64, .bf16⟩
  | .local _ .vmem, ⟨17, _⟩ => ⟨S1x1x64, .bf16⟩
  | .local _ .vmem, ⟨18, _⟩ => ⟨S1x64x512, .bf16⟩
  | .local _ .vmem, ⟨19, _⟩ => ⟨S1x64x512, .bf16⟩
  | .local _ .vmem, ⟨20, _⟩ => ⟨S1x64x1, .f32⟩
  | .local _ .vmem, ⟨21, _⟩ => ⟨S1x64x1, .f32⟩
  | .local _ .smem, ⟨0, _⟩ => ⟨S32, .i32⟩
  | _, _ => ⟨S32x1x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v100 : Index := Scalar.indexCast arg0
  ![v100.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32x1x64x512 : Shape := ⟨4, ![32, 1, 64, 512]⟩
abbrev S32x1x64x64 : Shape := ⟨4, ![32, 1, 64, 64]⟩
abbrev S32x512x512 : Shape := ⟨3, ![32, 512, 512]⟩
abbrev S32x128x128 : Shape := ⟨3, ![32, 128, 128]⟩
abbrev S32x16x128 : Shape := ⟨3, ![32, 16, 128]⟩
abbrev S32 : Shape := ⟨1, ![32]⟩
abbrev S32x1x512 : Shape := ⟨3, ![32, 1, 512]⟩
abbrev S32x1x4 : Shape := ⟨3, ![32, 1, 4]⟩
abbrev S32x1x64 : Shape := ⟨3, ![32, 1, 64]⟩
abbrev S32x4x4x128 : Shape := ⟨4, ![32, 4, 4, 128]⟩
abbrev S32x4x128x4 : Shape := ⟨4, ![32, 4, 128, 4]⟩
abbrev S32x512x4 : Shape := ⟨3, ![32, 512, 4]⟩
abbrev S32x4x32x128 : Shape := ⟨4, ![32, 4, 32, 128]⟩
abbrev S32x4x32x128x2 : Shape := ⟨5, ![32, 4, 32, 128, 2]⟩
abbrev S32x4x128x32x2 : Shape := ⟨5, ![32, 4, 128, 32, 2]⟩
abbrev S32x512x64 : Shape := ⟨3, ![32, 512, 64]⟩
abbrev S32x64x512 : Shape := ⟨3, ![32, 64, 512]⟩
abbrev S32x64x64 : Shape := ⟨3, ![32, 64, 64]⟩
abbrev S32x1x1 : Shape := ⟨3, ![32, 1, 1]⟩
abbrev S32x64x1 : Shape := ⟨3, ![32, 64, 1]⟩
abbrev S32x64x576 : Shape := ⟨3, ![32, 64, 576]⟩
abbrev S32x512x4x128 : Shape := ⟨4, ![32, 512, 4, 128]⟩
abbrev S32x512x4x1 : Shape := ⟨4, ![32, 512, 4, 1]⟩
abbrev S32x512x576 : Shape := ⟨3, ![32, 512, 576]⟩
abbrev S32x1x4x128 : Shape := ⟨4, ![32, 1, 4, 128]⟩
abbrev S32x1x4x1 : Shape := ⟨4, ![32, 1, 4, 1]⟩
abbrev S32x1x576 : Shape := ⟨3, ![32, 1, 576]⟩
abbrev S32x64x513 : Shape := ⟨3, ![32, 64, 513]⟩
abbrev S32x64 : Shape := ⟨2, ![32, 64]⟩

abbrev nBuf : Space → Nat
  | .hbm => 24
  | .vmem => 12
  | .smem => 0
  | _ => 0

abbrev bufTy : (tb : Table) → Fin (tcTables nBuf tb) → BufTy
  | .hbm, ⟨0, _⟩ => ⟨S32x1x64x512, .bf16⟩
  | .hbm, ⟨1, _⟩ => ⟨S32x1x64x64, .bf16⟩
  | .hbm, ⟨2, _⟩ => ⟨S32x512x512, .i8⟩
  | .hbm, ⟨3, _⟩ => ⟨S32x128x128, .i32⟩
  | .hbm, ⟨4, _⟩ => ⟨S32x16x128, .f32⟩
  | .hbm, ⟨5, _⟩ => ⟨S32, .i32⟩
  | .hbm, ⟨6, _⟩ => ⟨S32x1x512, .i8⟩
  | .hbm, ⟨7, _⟩ => ⟨S32x1x4, .f32⟩
  | .hbm, ⟨8, _⟩ => ⟨S32x1x64, .bf16⟩
  | .hbm, ⟨9, _⟩ => ⟨S32x1x512, .i32⟩
  | .hbm, ⟨10, _⟩ => ⟨S32x512x512, .fp8e4m3⟩
  | .hbm, ⟨11, _⟩ => ⟨S32x1x512, .fp8e4m3⟩
  | .hbm, ⟨12, _⟩ => ⟨S32x4x4x128, .f32⟩
  | .hbm, ⟨13, _⟩ => ⟨S32x4x128x4, .f32⟩
  | .hbm, ⟨14, _⟩ => ⟨S32x512x4, .f32⟩
  | .hbm, ⟨15, _⟩ => ⟨S32x4x32x128, .i32⟩
  | .hbm, ⟨16, _⟩ => ⟨S32x4x32x128x2, .bf16⟩
  | .hbm, ⟨17, _⟩ => ⟨S32x4x128x32x2, .bf16⟩
  | .hbm, ⟨18, _⟩ => ⟨S32x512x64, .bf16⟩
  | .hbm, ⟨19, _⟩ => ⟨S32x64x512, .bf16⟩
  | .hbm, ⟨20, _⟩ => ⟨S32x64x64, .bf16⟩
  | .hbm, ⟨21, _⟩ => ⟨S32x1x1, .i32⟩
  | .hbm, ⟨22, _⟩ => ⟨S32x64x512, .bf16⟩
  | .hbm, ⟨23, _⟩ => ⟨S32x64x1, .f32⟩
  | .local _ .vmem, ⟨0, _⟩ => ⟨S32x64x512, .bf16⟩
  | .local _ .vmem, ⟨1, _⟩ => ⟨S32x64x64, .bf16⟩
  | .local _ .vmem, ⟨2, _⟩ => ⟨S32x512x512, .fp8e4m3⟩
  | .local _ .vmem, ⟨3, _⟩ => ⟨S32x512x4, .f32⟩
  | .local _ .vmem, ⟨4, _⟩ => ⟨S32x512x64, .bf16⟩
  | .local _ .vmem, ⟨5, _⟩ => ⟨S32x1x1, .i32⟩
  | .local _ .vmem, ⟨6, _⟩ => ⟨S32x1x512, .fp8e4m3⟩
  | .local _ .vmem, ⟨7, _⟩ => ⟨S32x1x4, .f32⟩
  | .local _ .vmem, ⟨8, _⟩ => ⟨S32x1x64, .bf16⟩
  | .local _ .vmem, ⟨9, _⟩ => ⟨S32x1x512, .i32⟩
  | .local _ .vmem, ⟨10, _⟩ => ⟨S32x64x512, .bf16⟩
  | .local _ .vmem, ⟨11, _⟩ => ⟨S32x64x1, .f32⟩
  | _, _ => ⟨S32x1x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x512x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1x512 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.PreFacts.lean ====
/-
  The side conditions the precondition's program states, proved: its layout facts, each decided.
-/
module

public import proofs.«01_k».proof.Pre_finite
public import Idealize.ShloMosaic.Lib.Decide

@[expose] public section

namespace Cert.Pre_finite.Hand

open Idealize.ShloMosaic Cert.Pre_finite

/-- Every fact the precondition's program states. -/
instance facts : Cert.Pre_finite.Facts where
  splits_S32x128x128_w32_S32x128x128x2_w16 := by decide
  bcast_S_S32x512x512 := by decide
  bcast_S_S32x1x512 := by decide
  bcast_S_S32x1x64x512 := by decide
  bcast_S_S32x1x64x64 := by decide
  bcast_S_S32x128x128x2 := by decide
  bcast_S_S32x16x128 := by decide
  bcast_S_S32x1x4 := by decide
  bcast_S_S32x1x64 := by decide

end Cert.Pre_finite.Hand

end
-- ==== Proof.Frames.lean ====
/-
  The frames: each program runs, leaves its arguments as they were, and ends with every semaphore at zero.
  No index map reads the table of cache lengths, so its side condition holds of every memory.
-/
module

public import proofs.«01_k».proof.Defs
public import proofs.«01_k».proof.Proof.PreFacts
public import proofs.«01_k».proof.Proof.Gen.Kernel.Frame
public import proofs.«01_k».proof.Proof.Gen.KernelIdeal.Frame
public import proofs.«01_k».proof.Proof.Gen.ReferenceIdeal.Frame

@[expose] public section

set_option maxRecDepth 16384

noncomputable section

namespace Cert.Proof

open Idealize.ShloMosaic Idealize.SL.Sem

/-- The table's side condition of the kernel. -/
theorem ok_k {F : FTy → Type} [FloatOps F] (m : (ℓ : Loc Cert.Kernel.nD Cert.Kernel.τ Cert.Kernel.sig) → Buf (Elt F) ℓ) :
    Cert.Kernel.Gen.Ok m := trivial

/-- The table's side condition of the idealized kernel. -/
theorem ok_ki {F : FTy → Type} [FloatOps F]
    (m : (ℓ : Loc Cert.KernelIdeal.nD Cert.KernelIdeal.τ Cert.KernelIdeal.sig) → Buf (Elt F) ℓ) :
    Cert.KernelIdeal.Gen.Ok m := trivial

theorem frame_k : Cert.quiescent_Kernel := fun m ρ _ => Cert.Kernel.Gen.frame m ρ (ok_k m)

theorem frame_ki : Cert.quiescent_KernelIdeal := fun m ρ _ => Cert.KernelIdeal.Gen.frame m ρ (ok_ki m)

theorem frame_ki_pre : Cert.quiescent_KernelIdeal_pre_finite := fun m ρ _ => Cert.KernelIdeal.Gen.frame m ρ (ok_ki m)

theorem frame_ri : Cert.quiescent_ReferenceIdeal := fun m ρ _ => Cert.ReferenceIdeal.Gen.frame m ρ

theorem frame_ri_pre : Cert.quiescent_ReferenceIdeal_pre_finite := fun m ρ _ => Cert.ReferenceIdeal.Gen.frame m ρ

end Cert.Proof

end
-- ==== Proof.Model.lean ====
/-
  One batch's one head, in extended reals: the scores, the logarithm of their exponentials' sum and the result, as the
  kernel computes them and as the reference does; the two agree where every entry is finite.
-/
module

public import Idealize.ShloMosaic.Lib.Pointwise

@[expose] public section

set_option maxRecDepth 16384

noncomputable section

namespace Cert.Model

open Idealize.ShloMosaic

/-! ## Sums and products of reals -/

theorem coe_sum {ι : Type} [Fintype ι] (f : ι → ℝ) : ((∑ i, f i : ℝ) : EReal) = ∑ i, (f i : EReal) := by
  classical
  refine Finset.induction_on (Finset.univ : Finset ι) (by simp) fun i s hi ih => ?_
  rw [Finset.sum_insert hi, Finset.sum_insert hi, EReal.coe_add, ih]

/-- An extended real that is a real. -/
def Fin' (x : EReal) : Prop := ∃ y : ℝ, x = y

theorem Fin'.mul {x y : EReal} : Fin' x → Fin' y → Fin' (x * y) := by
  rintro ⟨a, rfl⟩ ⟨b, rfl⟩; exact ⟨a * b, (EReal.coe_mul a b).symm⟩

theorem Fin'.add {x y : EReal} : Fin' x → Fin' y → Fin' (x + y) := by
  rintro ⟨a, rfl⟩ ⟨b, rfl⟩; exact ⟨a + b, (EReal.coe_add a b).symm⟩

theorem Fin'.sum {ι : Type} [Fintype ι] {f : ι → EReal} (h : ∀ i, Fin' (f i)) : Fin' (∑ i, f i) := by
  choose g hg using h
  exact ⟨∑ i, g i, by rw [coe_sum]; exact Finset.sum_congr rfl fun i _ => hg i⟩

theorem Fin'.lt_top {x : EReal} : Fin' x → x < ⊤ := by
  rintro ⟨a, rfl⟩; exact EReal.coe_lt_top a

theorem Fin'.bot_lt {x : EReal} : Fin' x → ⊥ < x := by
  rintro ⟨a, rfl⟩; exact EReal.bot_lt_coe a

theorem fin'_of {x : EReal} (h₁ : ⊥ < x) (h₂ : x < ⊤) : Fin' x :=
  ⟨x.toReal, (EReal.coe_toReal h₂.ne h₁.ne').symm⟩

/-- A real factor goes into a sum of reals. -/
theorem mul_sum' {ι : Type} [Fintype ι] {a : EReal} {f : ι → EReal} (ha : Fin' a) (hf : ∀ i, Fin' (f i)) :
    a * ∑ i, f i = ∑ i, a * f i := by
  obtain ⟨b, rfl⟩ := ha
  choose g hg using hf
  obtain rfl : f = fun i => (g i : EReal) := funext hg
  rw [← coe_sum, ← EReal.coe_mul, Finset.mul_sum, coe_sum]
  exact Finset.sum_congr rfl fun i _ => EReal.coe_mul b (g i)

/-! ## A row -/

/-- The scores' scale. -/
abbrev sm : EReal := Ideal.ofBits .f32 0x3D93CD3A#32

/-- What stands for no score. -/
abbrev ni : EReal := Ideal.ofBits .f32 0xFF800000#32

theorem ni_eq : ni = ⊥ := by
  show Ideal.ieee 8 23 0xFF800000#32 = ⊥
  unfold Ideal.ieee
  dsimp only
  rw [if_pos (by decide), if_pos (by decide), if_pos (by decide)]

theorem sm_fin : Fin' sm := by
  show Fin' (Ideal.ieee 8 23 0x3D93CD3A#32)
  unfold Ideal.ieee
  dsimp only
  rw [if_neg (by decide), if_neg (by decide)]
  exact ⟨_, rfl⟩

/-- What one batch's one head is computed from: the two queries, the 512 keys' codes, rotary parts and scales, the new
    key's, and which keys are seen. -/
structure Row where
  q : Fin 512 → EReal
  qr : Fin 64 → EReal
  c : Fin 512 → Fin 512 → EReal
  r : Fin 512 → Fin 64 → EReal
  a : Fin 512 → Fin 4 → EReal
  cn : Fin 512 → EReal
  an : Fin 4 → EReal
  rn : Fin 64 → EReal
  ok : Fin 512 → BitVec 1

/-- Every entry is a real. -/
structure Row.Finite (R : Row) : Prop where
  q : ∀ i, Fin' (R.q i)
  qr : ∀ i, Fin' (R.qr i)
  c : ∀ k i, Fin' (R.c k i)
  r : ∀ k i, Fin' (R.r k i)
  a : ∀ k i, Fin' (R.a k i)
  cn : ∀ i, Fin' (R.cn i)
  an : ∀ i, Fin' (R.an i)
  rn : ∀ i, Fin' (R.rn i)

/-- The scale group of a column. -/
abbrev grp (i : Fin 512) : Fin 4 := ⟨i.val / 128, by omega⟩

/-- The column of a group. -/
abbrev col (g : Fin 4) (i : Fin 128) : Fin 512 := ⟨128 * g.val + i.val, by omega⟩

namespace Row

variable (R : Row)

/-- The new key's columns. -/
def latn (i : Fin 512) : EReal := R.cn i * R.an (grp i)

/-- The new key's score. -/
def sn : EReal := ((∑ i, R.q i * R.latn i) + ∑ r, R.qr r * R.rn r) * sm

/-- A key's score, each column scaled. -/
def refS (k : Fin 512) : EReal :=
  Scalar.select (R.ok k) (((∑ i, R.q i * (R.c k i * R.a k (grp i))) + ∑ r, R.qr r * R.r k r) * sm) ni

/-- A key's score, each group's sum scaled. -/
def kerS (k : Fin 512) : EReal :=
  Scalar.select (R.ok k) ((((((∑ r, R.qr r * R.r k r)
    + R.a k 0 * ∑ i, R.q (col 0 i) * R.c k (col 0 i)) + R.a k 1 * ∑ i, R.q (col 1 i) * R.c k (col 1 i))
    + R.a k 2 * ∑ i, R.q (col 2 i) * R.c k (col 2 i)) + R.a k 3 * ∑ i, R.q (col 3 i) * R.c k (col 3 i)) * sm) ni

end Row

theorem sum_col (f : Fin 512 → EReal) : ∑ i, f i =
    (∑ i, f (col 0 i)) + (∑ i, f (col 1 i)) + (∑ i, f (col 2 i)) + ∑ i, f (col 3 i) := by
  refine (Fin.sum_univ_tiles 4 128 rfl f).trans ?_
  rw [Fin.sum_univ_four]
  rfl

theorem Row.kerS_eq {R : Row} (hR : R.Finite) (k : Fin 512) : R.kerS k = R.refS k := by
  unfold Row.kerS Row.refS
  congr 2
  have e : ∀ g : Fin 4, R.a k g * ∑ i, R.q (col g i) * R.c k (col g i)
      = ∑ i, R.q (col g i) * (R.c k (col g i) * R.a k (grp (col g i))) := by
    intro g
    rw [mul_sum' (hR.a k g) fun i => (hR.q _).mul (hR.c _ _)]
    refine Finset.sum_congr rfl fun i _ => ?_
    have : grp (col g i) = g := Fin.ext (by show (128 * g.val + i.val) / 128 = g.val; omega)
    rw [this]; ac_rfl
  rw [e 0, e 1, e 2, e 3, sum_col fun i => R.q i * (R.c k i * R.a k (grp i))]
  ac_rfl

/-- Four blocks of 128 in a row. -/
def cat4 (f0 f1 f2 f3 : Fin 128 → EReal) (k : Fin 512) : EReal :=
  if h : k.val < 128 then f0 ⟨k.val, h⟩
  else if h : k.val - 128 < 128 then f1 ⟨k.val - 128, h⟩
  else if h : k.val - 128 - 128 < 128 then f2 ⟨k.val - 128 - 128, h⟩
  else f3 ⟨k.val - 128 - 128 - 128, by omega⟩

theorem cat4_eq (f : Fin 512 → EReal) {f0 f1 f2 f3 : Fin 128 → EReal} (h0 : ∀ i, f0 i = f (col 0 i))
    (h1 : ∀ i, f1 i = f (col 1 i)) (h2 : ∀ i, f2 i = f (col 2 i)) (h3 : ∀ i, f3 i = f (col 3 i)) (k : Fin 512) :
    cat4 f0 f1 f2 f3 k = f k := by
  unfold cat4
  split
  · rw [h0]; exact congrArg f (Fin.ext (by show 128 * 0 + k.val = k.val; omega))
  · split
    · rw [h1]; exact congrArg f (Fin.ext (by show 128 * 1 + (k.val - 128) = k.val; omega))
    · split
      · rw [h2]; exact congrArg f (Fin.ext (by show 128 * 2 + (k.val - 128 - 128) = k.val; omega))
      · rw [h3]; exact congrArg f (Fin.ext (by show 128 * 3 + (k.val - 128 - 128 - 128) = k.val; omega))

/-! ## The logarithm of the sum -/

/-- The greatest of the new key's score and four blocks'. -/
def top4 (s : EReal) (f0 f1 f2 f3 : Fin 128 → EReal) : EReal :=
  max (max (max (max s (Finset.univ.fold max ni f0)) (Finset.univ.fold max ni f1)) (Finset.univ.fold max ni f2))
    (Finset.univ.fold max ni f3)

/-- The kernel's logarithm of the sum, block by block. -/
def lse4 (s : EReal) (f0 f1 f2 f3 : Fin 128 → EReal) : EReal :=
  top4 s f0 f1 f2 f3 + Ideal.log (Ideal.exp (s - top4 s f0 f1 f2 f3)
    + (∑ x, Ideal.exp (f0 x - top4 s f0 f1 f2 f3)) + (∑ x, Ideal.exp (f1 x - top4 s f0 f1 f2 f3))
    + (∑ x, Ideal.exp (f2 x - top4 s f0 f1 f2 f3)) + ∑ x, Ideal.exp (f3 x - top4 s f0 f1 f2 f3))

/-- The reference's greatest score. -/
def refTop (T : Fin 513 → EReal) : EReal := max ni (Finset.univ.fold max ni T)

/-- It where it is finite, else zero. -/
def refShift (T : Fin 513 → EReal) : EReal :=
  Scalar.select (IntOp.xori (FloatOps.weird (F := Ideal) (refTop T)) 1#1) (refTop T) 0

/-- The reference's logarithm of the sum. -/
def refLse (T : Fin 513 → EReal) : EReal :=
  Ideal.log (FloatOps.absf (F := Ideal) (φ := .f32) (∑ x, Ideal.exp (T x - refShift T))) + refShift T

/-- The scores with the new key's last. -/
def cat (S : Fin 512 → EReal) (s : EReal) (k : Fin 513) : EReal := if h : k.val < 512 then S ⟨k.val, h⟩ else s

theorem fold_max_le {ι : Type} [Fintype ι] (f : ι → EReal) (y : EReal) :
    Finset.univ.fold max ni f ≤ y ↔ ∀ i, f i ≤ y := by
  rw [Finset.fold_max_le, ni_eq]; simp

theorem cat_all {p : EReal → Prop} (S : Fin 512 → EReal) (s : EReal) : (∀ k, p (cat S s k)) ↔ p s ∧ ∀ k, p (S k) := by
  constructor
  · intro h
    refine ⟨by simpa [cat] using h 512, fun k => ?_⟩
    have := h ⟨k.val, by omega⟩
    simpa [cat] using this
  · rintro ⟨h₁, h₂⟩ k
    unfold cat
    split
    · exact h₂ _
    · exact h₁

theorem col_all {p : Fin 512 → Prop} : (∀ k, p k) ↔ (∀ i, p (col 0 i)) ∧ (∀ i, p (col 1 i)) ∧ (∀ i, p (col 2 i)) ∧ ∀ i, p (col 3 i) := by
  constructor
  · intro h; exact ⟨fun i => h _, fun i => h _, fun i => h _, fun i => h _⟩
  · rintro ⟨h0, h1, h2, h3⟩ k
    have e : col (grp k) ⟨k.val % 128, by omega⟩ = k := Fin.ext (by show 128 * (k.val / 128) + k.val % 128 = k.val; omega)
    rw [← e]
    generalize grp k = g
    fin_cases g
    · exact h0 _
    · exact h1 _
    · exact h2 _
    · exact h3 _

theorem top_eq (S : Fin 512 → EReal) (s : EReal) :
    top4 s (fun i => S (col 0 i)) (fun i => S (col 1 i)) (fun i => S (col 2 i)) (fun i => S (col 3 i)) = refTop (cat S s) := by
  refine eq_of_forall_ge_iff fun y => ?_
  unfold top4 refTop
  simp only [max_le_iff, fold_max_le]
  rw [cat_all (p := fun z => z ≤ y) S s, col_all (p := fun k => S k ≤ y)]
  have : ni ≤ y := by rw [ni_eq]; exact bot_le
  tauto

theorem sum_cat (f : EReal → EReal) (S : Fin 512 → EReal) (s : EReal) : ∑ k, f (cat S s k) = (∑ k, f (S k)) + f s := by
  rw [Fin.sum_univ_castSucc]
  congr 1

theorem exp_nonneg (x : EReal) : 0 ≤ Ideal.exp x := by
  induction x with
  | bot => exact le_refl _
  | top => exact le_top
  | coe x => exact EReal.coe_nonneg.2 (Real.exp_pos x).le

theorem abs_of_nonneg {x : EReal} (h : 0 ≤ x) : FloatOps.absf (F := Ideal) (φ := .f32) x = x :=
  max_eq_left ((EReal.neg_le_neg_iff.2 h).trans (by simpa using h))

theorem shift_eq {S : Fin 512 → EReal} {s : EReal} (hs : Fin' s) (hS : ∀ k, S k < ⊤) : refShift (cat S s) = refTop (cat S s) := by
  have h1 : ⊥ < refTop (cat S s) := by
    rw [← top_eq]
    refine hs.bot_lt.trans_le ?_
    unfold top4
    simp
  have h2 : refTop (cat S s) < ⊤ := by
    unfold refTop
    rw [max_lt_iff, ni_eq]
    refine ⟨by simp, ?_⟩
    rw [Finset.fold_max_lt]
    exact ⟨by simp, fun k _ => (cat_all (p := fun z => z < ⊤) S s).2 ⟨hs.lt_top, hS⟩ k⟩
  unfold refShift
  have : FloatOps.weird (F := Ideal) (refTop (cat S s)) = 0#1 := by
    show BitVec.ofBool (decide _) = 0#1
    rw [decide_eq_false (by rintro (h | h); exacts [h2.ne h, h1.ne' h])]
    rfl
  rw [this]
  rfl

theorem lse_eq {S : Fin 512 → EReal} {s : EReal} (hs : Fin' s) (hS : ∀ k, S k < ⊤) :
    lse4 s (fun i => S (col 0 i)) (fun i => S (col 1 i)) (fun i => S (col 2 i)) (fun i => S (col 3 i)) = refLse (cat S s) := by
  unfold lse4 refLse
  rw [top_eq, shift_eq hs hS, sum_cat (fun z => Ideal.exp (z - refTop (cat S s))) S s,
    sum_col fun k => Ideal.exp (S k - refTop (cat S s))]
  rw [add_comm, abs_of_nonneg]
  · congr 2
    ac_rfl
  · refine add_nonneg (add_nonneg (add_nonneg (add_nonneg ?_ ?_) ?_) ?_) (exp_nonneg _)
    all_goals exact Finset.sum_nonneg fun k _ => exp_nonneg _

/-! ## The result -/

namespace Row

variable (R : Row)

/-- The reference's scores. -/
def refT : Fin 513 → EReal := cat R.refS R.sn

/-- The reference's logarithm of the sum. -/
def lse : EReal := refLse R.refT

/-- The reference's result. -/
def out (j : Fin 512) : EReal :=
  (∑ k : Fin 512, Ideal.exp (R.refT ⟨k.val, by omega⟩ - R.lse) * (R.c k j * R.a k (grp j)))
    + ∑ _x : Fin 1, Ideal.exp (R.refT 512 - R.lse) * R.latn j

/-- The kernel's result. -/
def kerOut (l : EReal) (j : Fin 512) : EReal :=
  Ideal.exp (R.sn - l) * R.latn j + ∑ k, (Ideal.exp (R.kerS k - l) * R.a k (grp j)) * R.c k j

/-- The kernel's logarithm of the sum. -/
def kerLse : EReal :=
  lse4 R.sn (fun i => R.kerS (col 0 i)) (fun i => R.kerS (col 1 i)) (fun i => R.kerS (col 2 i)) (fun i => R.kerS (col 3 i))

variable {R}

theorem sn_fin (hR : R.Finite) : Fin' R.sn :=
  ((Fin'.sum fun i => (hR.q i).mul ((hR.cn i).mul (hR.an _))).add (Fin'.sum fun r => (hR.qr r).mul (hR.rn r))).mul sm_fin

theorem refS_lt (hR : R.Finite) (k : Fin 512) : R.refS k < ⊤ := by
  unfold refS Scalar.select
  split
  · exact (((Fin'.sum fun i => (hR.q i).mul ((hR.c k i).mul (hR.a k _))).add
      (Fin'.sum fun r => (hR.qr r).mul (hR.r k r))).mul sm_fin).lt_top
  · rw [ni_eq]; simp

theorem kerLse_eq (hR : R.Finite) : R.kerLse = R.lse := by
  unfold kerLse
  simp only [kerS_eq hR]
  exact lse_eq (sn_fin hR) (refS_lt hR)

theorem kerOut_eq (hR : R.Finite) (j : Fin 512) : R.kerOut R.kerLse j = R.out j := by
  rw [kerLse_eq hR]
  unfold kerOut out refT
  simp only [kerS_eq hR]
  rw [add_comm, Fin.sum_univ_one]
  congr 1
  refine Finset.sum_congr rfl fun k _ => ?_
  rw [show cat R.refS R.sn ⟨k.val, by omega⟩ = R.refS k by simp [cat]]
  ac_rfl

end Row

end Cert.Model

end
-- ==== Proof.ArgRow.lean ====
/-
  The row of one batch and one head, read off the ten arguments: what both programs are shown to compute from.
-/
module

public import proofs.«01_k».proof.Proof.Model
public import proofs.«01_k».proof.KernelIdeal

@[expose] public section

set_option maxRecDepth 16384

noncomputable section

namespace Cert.Model

/-- Rows with equal entries are equal. -/
theorem Row.ext' {R S : Row} (q : ∀ i, R.q i = S.q i) (qr : ∀ i, R.qr i = S.qr i) (c : ∀ k i, R.c k i = S.c k i)
    (r : ∀ k i, R.r k i = S.r k i) (a : ∀ k g, R.a k g = S.a k g) (cn : ∀ i, R.cn i = S.cn i) (an : ∀ g, R.an g = S.an g)
    (rn : ∀ i, R.rn i = S.rn i) (ok : ∀ k, R.ok k = S.ok k) : R = S := by
  obtain ⟨q1, r1, c1, s1, a1, n1, an1, rn1, k1⟩ := R
  obtain ⟨q2, r2, c2, s2, a2, n2, an2, rn2, k2⟩ := S
  obtain rfl : q1 = q2 := funext q
  obtain rfl : r1 = r2 := funext qr
  obtain rfl : c1 = c2 := funext fun k => funext (c k)
  obtain rfl : s1 = s2 := funext fun k => funext (r k)
  obtain rfl : a1 = a2 := funext fun k => funext (a k)
  obtain rfl : n1 = n2 := funext cn
  obtain rfl : an1 = an2 := funext an
  obtain rfl : rn1 = rn2 := funext rn
  obtain rfl : k1 = k2 := funext ok
  rfl

end Cert.Model

namespace Cert.KernelIdeal.RefValue

open Idealize.ShloMosaic Idealize.SL.Sem Cert Cert.KernelIdeal

/-- The arguments in order: the rotated queries, their rotary part, the gathered codes, rotary words and scales, the cache
    lengths, the new key's codes, scales and rotary part, the gathered positions. Key `k` lies in block `k / 128` at place
    `k % 128`; a rotary word holds two bf16 values; a code is eight bits of an fp8 value. -/
def argRow (A0 : Vec Ideal S32x1x64x512 .bf16) (A1 : Vec Ideal S32x1x64x64 .bf16) (A2 : Vec Ideal S32x512x512 .i8)
    (A3 : Vec Ideal S32x128x128 .i32) (A4 : Vec Ideal S32x16x128 .f32) (A5 : Vec Ideal S32 .i32) (A6 : Vec Ideal S32x1x512 .i8)
    (A7 : Vec Ideal S32x1x4 .f32) (A8 : Vec Ideal S32x1x64 .bf16) (A9 : Vec Ideal S32x1x512 .i32) (b : Fin 32) (h : Fin 64) :
    Model.Row where
  q i := A0 (ix4 b 0 h i)
  qr r := A1 (ix4 b 0 h r)
  c k i := Ideal.ofBits .fp8e4m3 (A2 (ix3 b k i) : BitVec 8)
  r k r := Ideal.ofBits .bf16 ((A3 (ix3 b ⟨32 * (k.val / 128) + r.val / 2, by omega⟩ ⟨k.val % 128, by omega⟩) : BitVec 32).extractLsb' (16 * (r.val % 2)) 16)
  a k g := A4 (ix3 b ⟨4 * (k.val / 128) + g.val, by omega⟩ ⟨k.val % 128, by omega⟩)
  cn i := Ideal.ofBits .fp8e4m3 (A6 (ix3 b 0 i) : BitVec 8)
  an g := A7 (ix3 b 0 g)
  rn r := A8 (ix3 b 0 r)
  ok k := IntOp.andi (IntOp.cmpi .sge (A9 (ix3 b 0 k) : BitVec 32) 0#32) (IntOp.cmpi .slt (A9 (ix3 b 0 k) : BitVec 32) (A5 (ix1 b)))

end Cert.KernelIdeal.RefValue

end
-- ==== Proof.Finite.lean ====
/-
  The precondition read off the arguments: every entry of every row is a real.
-/
module

public import proofs.«01_k».proof.Defs
public import proofs.«01_k».proof.Proof.PreFacts
public import proofs.«01_k».proof.Proof.ArgRow
import Idealize.ShloMosaic.Lib.BitcastConvert

@[expose] public section

set_option maxRecDepth 16384

noncomputable section

namespace Cert.Model

open Idealize.ShloMosaic

/-- A value whose absolute value is below the infinity is a real. -/
theorem fin'_of_lt {x : EReal} (h : Ideal.cmp .olt (max x (-x)) ⊤ = 1#1) : Fin' x := by
  have hb : max x (-x) < ⊤ := by
    unfold Ideal.cmp at h
    by_contra hn
    simp [hn] at h
  rw [max_lt_iff] at hb
  refine fin'_of (bot_lt_iff_ne_bot.2 fun e => ?_) hb.1
  subst e
  simp at hb

theorem fin'_bf16 {x : EReal} (h : Ideal.cmp .olt (max x (-x)) (Ideal.ofBits .bf16 0x7F80#16) = 1#1) : Fin' x := by
  have e : Ideal.ofBits .bf16 0x7F80#16 = ⊤ := by simp [Ideal.ofBits, Ideal.ieee]
  exact fin'_of_lt (e ▸ h)

theorem fin'_f32 {x : EReal} (h : Ideal.cmp .olt (max x (-x)) (Ideal.ofBits .f32 0x7F800000#32) = 1#1) : Fin' x := by
  have e : Ideal.ofBits .f32 0x7F800000#32 = ⊤ := by simp [Ideal.ofBits, Ideal.ieee]
  exact fin'_of_lt (e ▸ h)

/-- An fp8 code is a NaN only if its low seven bits are ones. -/
theorem code_nan : ∀ w : BitVec 8, IntOp.andi (IntOp.cmpi .ne w 127#8) (IntOp.cmpi .ne w 255#8) = 1#1 →
    ¬ ((w.extractLsb' 3 4).toNat = 15 ∧ (w.extractLsb' 0 3).toNat = 7) := by decide +kernel

/-- Every other code is a real. -/
theorem fin'_code {w : BitVec 8} (h : IntOp.andi (IntOp.cmpi .ne w 127#8) (IntOp.cmpi .ne w 255#8) = 1#1) :
    Fin' (Ideal.ofBits .fp8e4m3 w) := by
  show Fin' (Ideal.e4m3fn w)
  unfold Ideal.e4m3fn
  dsimp only
  rw [if_neg (code_nan w h)]
  split
  · exact ⟨_, rfl⟩
  · exact ⟨_, rfl⟩

end Cert.Model

namespace Cert.KernelIdeal.RefValue

open Idealize.ShloMosaic Idealize.ShloMosaic.TcCoe Idealize.SL.Sem Cert Cert.KernelIdeal

variable (A0 : Vec Ideal S32x1x64x512 .bf16) (A1 : Vec Ideal S32x1x64x64 .bf16) (A2 : Vec Ideal S32x512x512 .i8)
    (A3 : Vec Ideal S32x128x128 .i32) (A4 : Vec Ideal S32x16x128 .f32) (A5 : Vec Ideal S32 .i32) (A6 : Vec Ideal S32x1x512 .i8)
    (A7 : Vec Ideal S32x1x4 .f32) (A8 : Vec Ideal S32x1x64 .bf16) (A9 : Vec Ideal S32x1x512 .i32)

/-- A rotary entry is the half of its word that the precondition unpacks. -/
theorem argRow_r_eq (b : Fin 32) (hd : Fin 64) (k : Fin 512) (r : Fin 64) :
    (argRow A0 A1 A2 A3 A4 A5 A6 A7 A8 A9 b hd).r k r
      = (bitcastToFloat (F := Ideal) .bf16 (Host.bitcastConvertNarrow Cert.Pre_finite.S32x128x128x2 16 A3 Cert.Pre_finite.Facts.splits_S32x128x128_w32_S32x128x128x2_w16) : FVec Ideal Cert.Pre_finite.S32x128x128x2 .bf16)
          (ix4 b (⟨32 * (k.val / 128) + r.val / 2, by omega⟩ : Fin 128) (⟨k.val % 128, by omega⟩ : Fin 128) (⟨r.val % 2, by omega⟩ : Fin 2)) := by
  refine congrArg₂ (fun n (w : BitVec 32) => Ideal.ofBits .bf16 (w.extractLsb' n 16)) (Nat.mul_comm _ _) (congrArg A3 ?_)
  funext a
  fin_cases a <;> rfl

/-- Under the precondition on the arguments every row is finite. -/
theorem argRow_finite
    (h2 : (Cert.Pre_finite.fn (F := Ideal) A0 A1 A2 A3 A4 A5 A6 A7 A8 A9).1 = fun _ => 1#1)
    (h6 : (Cert.Pre_finite.fn (F := Ideal) A0 A1 A2 A3 A4 A5 A6 A7 A8 A9).2.1 = fun _ => 1#1)
    (h0 : (Cert.Pre_finite.fn (F := Ideal) A0 A1 A2 A3 A4 A5 A6 A7 A8 A9).2.2.1 = fun _ => 1#1)
    (h1 : (Cert.Pre_finite.fn (F := Ideal) A0 A1 A2 A3 A4 A5 A6 A7 A8 A9).2.2.2.1 = fun _ => 1#1)
    (h3 : (Cert.Pre_finite.fn (F := Ideal) A0 A1 A2 A3 A4 A5 A6 A7 A8 A9).2.2.2.2.1 = fun _ => 1#1)
    (h4 : (Cert.Pre_finite.fn (F := Ideal) A0 A1 A2 A3 A4 A5 A6 A7 A8 A9).2.2.2.2.2.1 = fun _ => 1#1)
    (h7 : (Cert.Pre_finite.fn (F := Ideal) A0 A1 A2 A3 A4 A5 A6 A7 A8 A9).2.2.2.2.2.2.1 = fun _ => 1#1)
    (h8 : (Cert.Pre_finite.fn (F := Ideal) A0 A1 A2 A3 A4 A5 A6 A7 A8 A9).2.2.2.2.2.2.2 = fun _ => 1#1)
    (b : Fin 32) (hd : Fin 64) : (argRow A0 A1 A2 A3 A4 A5 A6 A7 A8 A9 b hd).Finite := by
  refine ⟨?_, ?_, ?_, ?_, ?_, ?_, ?_, ?_⟩
  · exact fun i => Model.fin'_bf16 (congrFun h0 (ix4 b 0 hd i))
  · exact fun i => Model.fin'_bf16 (congrFun h1 (ix4 b 0 hd i))
  · exact fun k i => Model.fin'_code (congrFun h2 (ix3 b k i))
  · intro k r
    have e := congrFun h3 (ix4 b (⟨32 * (k.val / 128) + r.val / 2, by omega⟩ : Fin 128) (⟨k.val % 128, by omega⟩ : Fin 128) (⟨r.val % 2, by omega⟩ : Fin 2))
    have e' := Model.fin'_bf16 e
    rwa [argRow_r_eq A0 A1 A2 A3 A4 A5 A6 A7 A8 A9 b hd k r]
  · exact fun k g => Model.fin'_f32 (congrFun h4 (ix3 b _ _))
  · exact fun i => Model.fin'_code (congrFun h6 (ix3 b 0 i))
  · exact fun g => Model.fin'_f32 (congrFun h7 (ix3 b 0 g))
  · exact fun g => Model.fin'_bf16 (congrFun h8 (ix3 b 0 g))

end Cert.KernelIdeal.RefValue

end
-- ==== Proof.Softmax.lean ====
/-
  What the kernel makes of the four blocks' scores and of the new key's: the logarithm of their exponentials' sum, the
  probabilities, and the result's columns, each read at an index.
-/
module

public import proofs.«01_k».proof.Proof.Gen.KernelIdeal.Skeleton
public import proofs.«01_k».proof.Proof.Model

@[expose] public section

set_option maxRecDepth 16384

noncomputable section

namespace Cert.KernelIdeal.RefValue

open Idealize.ShloMosaic Idealize.SL.Sem Cert Cert.KernelIdeal Cert.KernelIdeal.Gen

/-! ## The new key -/

section NewKey

variable (v0 : Vec Ideal S1x64x512 .bf16) (v2 : Vec Ideal S1x64x64 .bf16) (v4 : Vec Ideal S1x1x4 .f32)
  (c0 c1 c2 c3 : Vec Ideal S1x1x128 .fp8e4m3) (v39 : Vec Ideal S1x1x64 .bf16)

/-- A column of the new key, over its four loads. -/
theorem latn_apply (j : Fin 512) : k0_pay5 (F := Ideal) v4 c0 c1 c2 c3 (ix2 0 j) =
    (Model.cat4 (fun i => c0 (ix3 0 0 i)) (fun i => c1 (ix3 0 0 i)) (fun i => c2 (ix3 0 0 i)) (fun i => c3 (ix3 0 0 i)) j : EReal)
      * v4 (ix3 0 0 (Model.grp j)) := by
  pointwise [k0_pay5]
  unfold Model.cat4
  have e : ∀ g : Fin 4, j.val / 128 = g.val → (v4 (ix3 0 0 g) : EReal) = v4 (ix3 0 0 (Model.grp j)) := fun g hg =>
    congrArg (fun g => v4 (ix3 0 0 g)) (Fin.ext hg.symm)
  split
  · rw [e 0 (by show j.val / 128 = 0; omega)]
  · split
    · rw [e 1 (by show j.val / 128 = 1; omega)]
    · split
      · rw [e 2 (by show j.val / 128 = 2; omega)]
      · rw [e 3 (by show j.val / 128 = 3; omega)]

/-- The new key's score. -/
theorem sn_apply (h : Fin 64) : k0_pay7 (F := Ideal) (k0_pay4 v2) (k0_pay6 v0 v4 c0 c1 c2 c3) v39 (ix2 h 0) =
    ((∑ i : Fin 512, (v0 (ix3 0 h i) : EReal) * k0_pay5 (F := Ideal) v4 c0 c1 c2 c3 (ix2 0 i))
      + ∑ r : Fin 64, (v2 (ix3 0 h r) : EReal) * v39 (ix3 0 0 r)) * Ideal.ofBits .f32 0x3D93CD3A#32 := by
  have e : k0_pay6 (F := Ideal) v0 v4 c0 c1 c2 c3 (ix1 h)
      = ∑ i : Fin 512, (v0 (ix3 0 h i) : EReal) * k0_pay5 (F := Ideal) v4 c0 c1 c2 c3 (ix2 0 i) := by
    unfold k0_pay6
    generalize k0_pay5 (F := Ideal) v4 c0 c1 c2 c3 = z
    pointwise [k0_pay3]
  generalize k0_pay6 (F := Ideal) v0 v4 c0 c1 c2 c3 = y at e ⊢
  pointwise [k0_pay7, k0_pay4]
  rw [e]

end NewKey

section Tail

variable (sn : FVec Ideal S64x1 .f32) (s0 s1 s2 s3 t : FVec Ideal S64x128 .f32) (n : EReal) (b : IVec S1x128 1)

/-- The logarithm of the sum. -/
theorem lse_apply (h3 : k0_pay31 (F := Ideal) t n b = s3) (h : Fin 64) : k0_pay32 (F := Ideal) sn s0 s1 s2 t n b (ix2 h 0)
    = Model.lse4 (sn (ix2 h 0)) (fun j => s0 (ix2 h j)) (fun j => s1 (ix2 h j)) (fun j => s2 (ix2 h j)) (fun j => s3 (ix2 h j)) := by
  unfold k0_pay32
  rw [h3]
  pointwise
  rfl

/-- The columns of one group of the result, over the probabilities' four blocks. -/
def outTile (latn : FVec Ideal S1x128 .bf16) (kv : FVec Ideal S512x128 .bf16) (pn : FVec Ideal S64x1 .bf16)
    (p0 p1 p2 p3 : FVec Ideal S64x128 .bf16) (a0 a1 a2 a3 : Vec Ideal S1x1x128 .f32) : FVec Ideal S1x64x128 .bf16 :=
  shapeCast S1x64x128 (truncf .bf16 (addf
    (mulf (broadcastTo S64x128 (extf .f32 pn bitsLt_bf16_f32) broadcasts_S64x1_S64x128)
      (broadcastTo S64x128 (extf .f32 latn bitsLt_bf16_f32) broadcasts_S1x128_S64x128))
    (matmul dot_S64x512_S512x128_S64x128_1_0_0_1_n_n none
      (mulf (concatenate S64x512 1 [⟨S64x128, p0⟩, ⟨S64x128, p1⟩, ⟨S64x128, p2⟩, ⟨S64x128, p3⟩] concatenates_S64x128_S64x128_S64x128_S64x128_S64x512_d1)
        (broadcastTo S64x512 (concatenate S1x512 1 [⟨S1x128, truncf .bf16 (shapeCast S1x128 a0 shapeCasts_S1x1x128_S1x128) bitsLt_bf16_f32⟩,
          ⟨S1x128, truncf .bf16 (shapeCast S1x128 a1 shapeCasts_S1x1x128_S1x128) bitsLt_bf16_f32⟩,
          ⟨S1x128, truncf .bf16 (shapeCast S1x128 a2 shapeCasts_S1x1x128_S1x128) bitsLt_bf16_f32⟩,
          ⟨S1x128, truncf .bf16 (shapeCast S1x128 a3 shapeCasts_S1x1x128_S1x128) bitsLt_bf16_f32⟩]
          concatenates_S1x128_S1x128_S1x128_S1x128_S1x512_d1) broadcasts_S1x512_S64x512))
      kv (constant S64x128 .f32 0x00000000#32))) bitsLt_bf16_f32) shapeCasts_S64x128_S1x64x128

theorem outTile_apply (latn : FVec Ideal S1x128 .bf16) (kv : FVec Ideal S512x128 .bf16) (pn : FVec Ideal S64x1 .bf16)
    (p0 p1 p2 p3 : FVec Ideal S64x128 .bf16) (a0 a1 a2 a3 : Vec Ideal S1x1x128 .f32) (h : Fin 64) (j : Fin 128) :
    outTile latn kv pn p0 p1 p2 p3 a0 a1 a2 a3 (ix3 0 h j) = (pn (ix2 h 0) : EReal) * latn (ix2 0 j)
      + ∑ k : Fin 512, (Model.cat4 (fun j => p0 (ix2 h j)) (fun j => p1 (ix2 h j)) (fun j => p2 (ix2 h j)) (fun j => p3 (ix2 h j)) k
        * Model.cat4 (fun j => a0 (ix3 0 0 j)) (fun j => a1 (ix3 0 0 j)) (fun j => a2 (ix3 0 0 j)) (fun j => a3 (ix3 0 0 j)) k)
        * kv (ix2 k j) := by
  pointwise [outTile]
  rfl

end Tail

end Cert.KernelIdeal.RefValue

end
-- ==== Proof.Tile.lean ====
/-
  The scores of one block of 128 keys, as one function of the query, the block's keys and its layout: the kernel
  computes it four times, once per block, and here it is read at an index once.
-/
module

public import proofs.«01_k».proof.Proof.Gen.KernelIdeal.Skeleton
public import Idealize.ShloMosaic.Lib.Pointwise
public import Idealize.ShloMosaic.Lib.BitcastPair

@[expose] public section

set_option maxRecDepth 16384

noncomputable section

namespace Cert.KernelIdeal.RefValue

open Idealize.ShloMosaic Idealize.SL.Sem Cert.KernelIdeal Cert.KernelIdeal.Gen

/-- The rotary part of a block's keys: its words read as pairs of sixteen-bit floats. -/
def ropeTile (w : Vec Ideal S1x32x128 .i32) : FVec Ideal S64x128 .bf16 :=
  bitcastToFloat .bf16 (bitcast S64x128 16 (shapeCast S32x128 w shapeCasts_S1x32x128_S32x128) bitcasts_S32x128_w32_S64x128_w16)

/-- One group's scores: the product over the group's 128 columns, times the group's scale of each key. -/
def groupTile (q : FVec Ideal S64x128 .bf16) (c : FVec Ideal S128x128 .bf16) (a : Vec Ideal S1x1x128 .f32) : FVec Ideal S64x128 .f32 :=
  mulf (broadcastTo S64x128 (extf .f32 (truncf .bf16 (shapeCast S1x128 a shapeCasts_S1x1x128_S1x128) bitsLt_bf16_f32) bitsLt_bf16_f32)
    broadcasts_S1x128_S64x128)
    (matmul dot_S64x128_S128x128_S64x128_1_1_0_0_n_n none q c (constant S64x128 .f32 0x00000000#32))

/-- A block's scores under the mask of its keys. -/
def maskTile (s : FVec Ideal S64x128 .f32) (ix : Vec Ideal S1x1x128 .i32) (n : BitVec 32) : FVec Ideal S64x128 .f32 :=
  select (broadcastTo S64x128 (shapeCast S1x128
      (andi (cmpi .sge (shapeCast S1x128 ix shapeCasts_S1x1x128_S1x128) (broadcast S1x128 0#32))
        (cmpi .slt (shapeCast S1x128 ix shapeCasts_S1x1x128_S1x128) (broadcast S1x128 n)))
      shapeCasts_S1x128_S1x128) broadcasts_S1x128_S64x128)
    (mulf s (broadcast S64x128 (Scalar.ofBits .f32 0x3D93CD3A#32)))
    (broadcast S64x128 (Scalar.ofBits .f32 0xFF800000#32))

/-- A block's scores: the rotary product, then the four groups, then the scale and the mask. -/
def scoreTile (q0 q1 q2 q3 : FVec Ideal S64x128 .bf16) (qr : FVec Ideal S64x64 .bf16) (c0 c1 c2 c3 : FVec Ideal S128x128 .bf16)
    (w : Vec Ideal S1x32x128 .i32) (a0 a1 a2 a3 : Vec Ideal S1x1x128 .f32) (ix : Vec Ideal S1x1x128 .i32) (n : BitVec 32) :
    FVec Ideal S64x128 .f32 :=
  maskTile (addf (addf (addf (addf
    (matmul dot_S64x64_S64x128_S64x128_1_0_0_1_n_n none qr (ropeTile w) (constant S64x128 .f32 0x00000000#32))
    (groupTile q0 c0 a0)) (groupTile q1 c1 a1)) (groupTile q2 c2 a2)) (groupTile q3 c3 a3)) ix n

/-- Columns `[128 g, 128 g + 128)` of the query. -/
def qSlice (q : FVec Ideal S64x512 .bf16) : Fin 4 → FVec Ideal S64x128 .bf16
  | 0 => extractStridedSlice S64x128 ![0, 0] q slices_S64x512_o0_0_S64x128
  | 1 => extractStridedSlice S64x128 ![0, 128] q slices_S64x512_o0_128_S64x128
  | 2 => extractStridedSlice S64x128 ![0, 256] q slices_S64x512_o0_256_S64x128
  | 3 => extractStridedSlice S64x128 ![0, 384] q slices_S64x512_o0_384_S64x128

/-- The square of 128 keys and 128 columns at block `k` and group `g`. -/
def kvSlice (c : FVec Ideal S512x512 .bf16) : Fin 4 → Fin 4 → FVec Ideal S128x128 .bf16
  | 0, 0 => extractStridedSlice S128x128 ![0, 0] c slices_S512x512_o0_0_S128x128
  | 0, 1 => extractStridedSlice S128x128 ![0, 128] c slices_S512x512_o0_128_S128x128
  | 0, 2 => extractStridedSlice S128x128 ![0, 256] c slices_S512x512_o0_256_S128x128
  | 0, 3 => extractStridedSlice S128x128 ![0, 384] c slices_S512x512_o0_384_S128x128
  | 1, 0 => extractStridedSlice S128x128 ![128, 0] c slices_S512x512_o128_0_S128x128
  | 1, 1 => extractStridedSlice S128x128 ![128, 128] c slices_S512x512_o128_128_S128x128
  | 1, 2 => extractStridedSlice S128x128 ![128, 256] c slices_S512x512_o128_256_S128x128
  | 1, 3 => extractStridedSlice S128x128 ![128, 384] c slices_S512x512_o128_384_S128x128
  | 2, 0 => extractStridedSlice S128x128 ![256, 0] c slices_S512x512_o256_0_S128x128
  | 2, 1 => extractStridedSlice S128x128 ![256, 128] c slices_S512x512_o256_128_S128x128
  | 2, 2 => extractStridedSlice S128x128 ![256, 256] c slices_S512x512_o256_256_S128x128
  | 2, 3 => extractStridedSlice S128x128 ![256, 384] c slices_S512x512_o256_384_S128x128
  | 3, 0 => extractStridedSlice S128x128 ![384, 0] c slices_S512x512_o384_0_S128x128
  | 3, 1 => extractStridedSlice S128x128 ![384, 128] c slices_S512x512_o384_128_S128x128
  | 3, 2 => extractStridedSlice S128x128 ![384, 256] c slices_S512x512_o384_256_S128x128
  | 3, 3 => extractStridedSlice S128x128 ![384, 384] c slices_S512x512_o384_384_S128x128

/-- The query's slice read at an index. -/
theorem qSlice_apply (q : FVec Ideal S64x512 .bf16) (g : Fin 4) (h : Fin 64) (i : Fin 128) :
    qSlice q g (ix2 h i) = q (ix2 h ⟨128 * g.val + i.val, by omega⟩) := by
  match g with
  | 0 => pointwise [qSlice]
  | 1 => pointwise [qSlice]
  | 2 => pointwise [qSlice]
  | 3 => pointwise [qSlice]

/-- The keys' square read at an index. -/
theorem kvSlice_apply (c : FVec Ideal S512x512 .bf16) (k g : Fin 4) (j i : Fin 128) :
    kvSlice c k g (ix2 j i) = c (ix2 ⟨128 * k.val + j.val, by omega⟩ ⟨128 * g.val + i.val, by omega⟩) := by
  fin_cases k <;> fin_cases g <;> pointwise [kvSlice]

/-- A key takes part when its index is not negative and lies below the cache's length. -/
def valid (i n : BitVec 32) : BitVec 1 := IntOp.andi (IntOp.cmpi .sge i 0#32) (IntOp.cmpi .slt i n)

theorem groupTile_apply (q : FVec Ideal S64x128 .bf16) (c : FVec Ideal S128x128 .bf16) (a : Vec Ideal S1x1x128 .f32) (h : Fin 64) (j : Fin 128) :
    groupTile q c a (ix2 h j) = (a (ix3 0 0 j) : EReal) * ∑ i : Fin 128, (q (ix2 h i) : EReal) * c (ix2 j i) := by
  pointwise [groupTile]

theorem maskTile_apply (s : FVec Ideal S64x128 .f32) (ix : Vec Ideal S1x1x128 .i32) (n : BitVec 32) (h : Fin 64) (j : Fin 128) :
    maskTile s ix n (ix2 h j) = Scalar.select (valid (ix (ix3 0 0 j)) n)
      ((s (ix2 h j) : EReal) * Ideal.ofBits .f32 0x3D93CD3A#32) (Ideal.ofBits .f32 0xFF800000#32) := by
  pointwise [maskTile, valid]

/-- Row `r` of the rotary part is half `r % 2` of word row `r / 2`. -/
theorem ropeTile_apply (w : Vec Ideal S1x32x128 .i32) (r : Fin 64) (j : Fin 128) :
    ropeTile w (ix2 r j) = Ideal.ofBits .bf16 ((w (ix3 0 ⟨r.val / 2, by omega⟩ j) : BitVec 32).extractLsb' (16 * (r.val % 2)) 16) := by
  pointwise [ropeTile]
  rw [bitcast_32_16]
  have e : bitcasts_S32x128_w32_S64x128_w16.srcIdx (ix2 r j : S64x128.Idx) (S64x128.row (ix2 r j) / 2) (fun a ha => by
      have := bitcasts_S32x128_w32_S64x128_w16.pos_lt (ix2 r j) 0 (by decide) a ha; omega)
      = ix2 ⟨r.val / 2, by omega⟩ j := by
    funext a
    match a with
    | ⟨0, _⟩ => rfl
    | ⟨1, _⟩ => rfl
  rw [e]
  pointwise

theorem scoreTile_apply (q0 q1 q2 q3 : FVec Ideal S64x128 .bf16) (qr : FVec Ideal S64x64 .bf16) (c0 c1 c2 c3 : FVec Ideal S128x128 .bf16)
    (w : Vec Ideal S1x32x128 .i32) (a0 a1 a2 a3 : Vec Ideal S1x1x128 .f32) (ix : Vec Ideal S1x1x128 .i32) (n : BitVec 32) (h : Fin 64) (j : Fin 128) :
    scoreTile q0 q1 q2 q3 qr c0 c1 c2 c3 w a0 a1 a2 a3 ix n (ix2 h j) = Scalar.select (valid (ix (ix3 0 0 j)) n)
      ((((((∑ r : Fin 64, (qr (ix2 h r) : EReal) * ropeTile w (ix2 r j))
        + (a0 (ix3 0 0 j) : EReal) * ∑ i : Fin 128, (q0 (ix2 h i) : EReal) * c0 (ix2 j i))
        + (a1 (ix3 0 0 j) : EReal) * ∑ i : Fin 128, (q1 (ix2 h i) : EReal) * c1 (ix2 j i))
        + (a2 (ix3 0 0 j) : EReal) * ∑ i : Fin 128, (q2 (ix2 h i) : EReal) * c2 (ix2 j i))
        + (a3 (ix3 0 0 j) : EReal) * ∑ i : Fin 128, (q3 (ix2 h i) : EReal) * c3 (ix2 j i))
        * Ideal.ofBits .f32 0x3D93CD3A#32) (Ideal.ofBits .f32 0xFF800000#32) := by
  pointwise [scoreTile, maskTile_apply, groupTile_apply]

/-! ## The kernel's four spellings of it -/

section Spellings

variable (v0 : Vec Ideal S1x64x512 .bf16) (v2 : Vec Ideal S1x64x64 .bf16) (v49 : Vec Ideal S1x512x512 .fp8e4m3)
  (ix : Vec Ideal S1x1x128 .i32) (w : Vec Ideal S1x32x128 .i32) (a0 a1 a2 a3 : Vec Ideal S1x1x128 .f32) (n : BitVec 32)

/-- One block's scores over the whole query and the whole keys. -/
def score (k : Fin 4) : FVec Ideal S64x128 .f32 :=
  scoreTile (qSlice (k0_pay3 v0) 0) (qSlice (k0_pay3 v0) 1) (qSlice (k0_pay3 v0) 2) (qSlice (k0_pay3 v0) 3) (k0_pay4 v2)
    (kvSlice (k0_pay8 v49) k 0) (kvSlice (k0_pay8 v49) k 1) (kvSlice (k0_pay8 v49) k 2) (kvSlice (k0_pay8 v49) k 3) w a0 a1 a2 a3 ix n

theorem score0_eq : k0_pay14 (F := Ideal) (k0_pay3 v0) (k0_pay8 v49) (k0_pay9 ix) (k0_pay10 (k0_pay3 v0) (k0_pay4 v2) v49 w a0) (k0_pay11 a1)
    (k0_pay12 (k0_pay3 v0)) (k0_pay13 v49) (constant S64x128 .f32 0x00000000#32) a2 a3 n = score v0 v2 v49 ix w a0 a1 a2 a3 n 0 := rfl

theorem score1_eq : k0_pay19 (F := Ideal) (k0_pay15 ix) (k0_pay17 (k0_pay3 v0) (k0_pay4 v2) (k0_pay8 v49) (k0_pay16 w)
    (constant S64x128 .f32 0x00000000#32) a0 a1 a2 a3) (k0_pay18 (k0_pay15 ix)) n = score v0 v2 v49 ix w a0 a1 a2 a3 n 1 := rfl

theorem score2_eq : k0_pay23 (F := Ideal) (k0_pay3 v0) (k0_pay8 v49) (k0_pay20 ix) (k0_pay21 (k0_pay3 v0) (k0_pay4 v2) (k0_pay8 v49) w a0 a1)
    (k0_pay22 a2) a3 n = score v0 v2 v49 ix w a0 a1 a2 a3 n 2 := rfl

theorem score3_eq : k0_pay31 (F := Ideal) (k0_pay29 (k0_pay3 v0) (k0_pay8 v49) (k0_pay25 (k0_pay4 v2) w) (k0_pay26 a0) (k0_pay27 (k0_pay3 v0))
    (k0_pay28 (k0_pay8 v49)) a1 a2 a3) (Scalar.ofBits .f32 0xFF800000#32) (k0_pay30 (F := Ideal) (k0_pay24 (F := Ideal) ix) n)
    = score v0 v2 v49 ix w a0 a1 a2 a3 n 3 := rfl

/-- One block's scores read at an index. -/
theorem score_apply (k : Fin 4) (h : Fin 64) (j : Fin 128) :
    score v0 v2 v49 ix w a0 a1 a2 a3 n k (ix2 h j) = Scalar.select (valid (ix (ix3 0 0 j)) n)
      ((((((∑ r : Fin 64, (v2 (ix3 0 h r) : EReal)
            * Ideal.ofBits .bf16 ((w (ix3 0 ⟨r.val / 2, by omega⟩ j) : BitVec 32).extractLsb' (16 * (r.val % 2)) 16))
        + (a0 (ix3 0 0 j) : EReal) * ∑ i : Fin 128, (v0 (ix3 0 h ⟨128 * 0 + i.val, by omega⟩) : EReal)
            * v49 (ix3 0 ⟨128 * k.val + j.val, by omega⟩ ⟨128 * 0 + i.val, by omega⟩))
        + (a1 (ix3 0 0 j) : EReal) * ∑ i : Fin 128, (v0 (ix3 0 h ⟨128 * 1 + i.val, by omega⟩) : EReal)
            * v49 (ix3 0 ⟨128 * k.val + j.val, by omega⟩ ⟨128 * 1 + i.val, by omega⟩))
        + (a2 (ix3 0 0 j) : EReal) * ∑ i : Fin 128, (v0 (ix3 0 h ⟨128 * 2 + i.val, by omega⟩) : EReal)
            * v49 (ix3 0 ⟨128 * k.val + j.val, by omega⟩ ⟨128 * 2 + i.val, by omega⟩))
        + (a3 (ix3 0 0 j) : EReal) * ∑ i : Fin 128, (v0 (ix3 0 h ⟨128 * 3 + i.val, by omega⟩) : EReal)
            * v49 (ix3 0 ⟨128 * k.val + j.val, by omega⟩ ⟨128 * 3 + i.val, by omega⟩))
        * Ideal.ofBits .f32 0x3D93CD3A#32) (Ideal.ofBits .f32 0xFF800000#32) := by
  unfold score
  rw [scoreTile_apply]
  have e3 : ∀ (h : Fin 64) (i : Fin 512), k0_pay3 (F := Ideal) v0 (ix2 h i) = v0 (ix3 0 h i) := fun h i => by pointwise [k0_pay3]
  have e4 : ∀ (h : Fin 64) (i : Fin 64), k0_pay4 (F := Ideal) v2 (ix2 h i) = v2 (ix3 0 h i) := fun h i => by pointwise [k0_pay4]
  have e8 : ∀ (h : Fin 512) (i : Fin 512), k0_pay8 (F := Ideal) v49 (ix2 h i) = v49 (ix3 0 h i) := fun h i => by pointwise [k0_pay8]
  simp only [qSlice_apply, kvSlice_apply, ropeTile_apply, e3, e4, e8]
  rfl

end Spellings

end Cert.KernelIdeal.RefValue

end
-- ==== Proof.KernelRow.lean ====
/-
  The kernel's block of one batch, head by head: its scores, the logarithm of their exponentials' sum and the four groups of
  result columns are those of the row its vectors hold.
-/
module

public import proofs.«01_k».proof.Proof.Softmax
public import proofs.«01_k».proof.Proof.Tile

@[expose] public section

set_option maxRecDepth 16384

noncomputable section

namespace Cert.KernelIdeal.RefValue

open Idealize.ShloMosaic Idealize.SL.Sem Cert Cert.KernelIdeal Cert.KernelIdeal.Gen
open Cert.Model (col grp)

section Row

variable (x0 : Vec Ideal S1x64x512 .bf16) (x1 : Vec Ideal S1x64x64 .bf16) (x2 : Vec Ideal S1x512x512 .fp8e4m3)
  (x3 : Vec Ideal S1x128x128 .i32) (x4 : Vec Ideal S1x16x128 .f32) (x5 : Vec Ideal S1x4x128 .i32)
  (x6 : Vec Ideal S1x1x512 .fp8e4m3) (x7 : Vec Ideal S1x1x4 .f32) (x8 : Vec Ideal S1x1x64 .bf16) (n : BitVec 32) (h : Fin 64)

/-- The row of head `h`: key `k` lies in block `k / 128` at place `k % 128`. -/
def row : Model.Row where
  q i := x0 (ix3 0 h i)
  qr r := x1 (ix3 0 h r)
  c k i := x2 (ix3 0 k i)
  r k r := Ideal.ofBits .bf16 ((x3 (ix3 0 ⟨32 * (k.val / 128) + r.val / 2, by omega⟩ ⟨k.val % 128, by omega⟩) : BitVec 32).extractLsb' (16 * (r.val % 2)) 16)
  a k g := x4 (ix3 0 ⟨4 * (k.val / 128) + g.val, by omega⟩ ⟨k.val % 128, by omega⟩)
  cn i := x6 (ix3 0 0 i)
  an g := x7 (ix3 0 0 g)
  rn r := x8 (ix3 0 0 r)
  ok k := valid (x5 (ix3 0 ⟨k.val / 128, by omega⟩ ⟨k.val % 128, by omega⟩)) n

/-- Block `b`'s scores. -/
theorem score_row (b : Fin 4) {v0 : Vec Ideal S1x64x512 .bf16} {v1 : Vec Ideal S1x64x64 .bf16} {v2 : Vec Ideal S1x512x512 .fp8e4m3}
    {n' : BitVec 32} {w : Vec Ideal S1x32x128 .i32} {ix : Vec Ideal S1x1x128 .i32} {a0 a1 a2 a3 : Vec Ideal S1x1x128 .f32}
    (e0 : v0 = x0) (e1 : v1 = x1) (e2 : v2 = x2) (en : n' = n)
    (hw : ∀ r j, w (ix3 0 r j) = x3 (ix3 0 ⟨32 * b.val + r.val, by omega⟩ j)) (hix : ∀ j, ix (ix3 0 0 j) = x5 (ix3 0 b j))
    (h0 : ∀ j, a0 (ix3 0 0 j) = x4 (ix3 0 ⟨4 * b.val + 0, by omega⟩ j)) (h1 : ∀ j, a1 (ix3 0 0 j) = x4 (ix3 0 ⟨4 * b.val + 1, by omega⟩ j))
    (h2 : ∀ j, a2 (ix3 0 0 j) = x4 (ix3 0 ⟨4 * b.val + 2, by omega⟩ j)) (h3 : ∀ j, a3 (ix3 0 0 j) = x4 (ix3 0 ⟨4 * b.val + 3, by omega⟩ j))
    (j : Fin 128) : score v0 v1 v2 ix w a0 a1 a2 a3 n' b (ix2 h j) = (row x0 x1 x2 x3 x4 x5 x6 x7 x8 n h).kerS (col b j) := by
  subst e0 e1 e2 en
  rw [score_apply]
  simp only [hw, hix, h0, h1, h2, h3]
  have e1 : (col b j).val / 128 = b.val := by show (128 * b.val + j.val) / 128 = b.val; omega
  have e2 : (⟨(col b j).val % 128, by omega⟩ : Fin 128) = j := Fin.ext (by show (128 * b.val + j.val) % 128 = j.val; omega)
  unfold Model.Row.kerS row
  simp only [e1, e2]
  rfl

/-- The new key's columns. -/
theorem latn_row {v7 : Vec Ideal S1x1x4 .f32} {c0 c1 c2 c3 : Vec Ideal S1x1x128 .fp8e4m3} (e7 : v7 = x7) (h0 : ∀ j, c0 (ix3 0 0 j) = x6 (ix3 0 0 (col 0 j)))
    (h1 : ∀ j, c1 (ix3 0 0 j) = x6 (ix3 0 0 (col 1 j))) (h2 : ∀ j, c2 (ix3 0 0 j) = x6 (ix3 0 0 (col 2 j)))
    (h3 : ∀ j, c3 (ix3 0 0 j) = x6 (ix3 0 0 (col 3 j))) (i : Fin 512) :
    k0_pay5 (F := Ideal) v7 c0 c1 c2 c3 (ix2 0 i) = (row x0 x1 x2 x3 x4 x5 x6 x7 x8 n h).latn i := by
  subst e7
  rw [latn_apply, Model.cat4_eq (fun i => x6 (ix3 0 0 i)) h0 h1 h2 h3]
  rfl

/-- The new key's score. -/
theorem sn_row {v0 : Vec Ideal S1x64x512 .bf16} {v1 : Vec Ideal S1x64x64 .bf16} {v7 : Vec Ideal S1x1x4 .f32} {v8 : Vec Ideal S1x1x64 .bf16}
    (e0 : v0 = x0) (e1 : v1 = x1) (e7 : v7 = x7) (e8 : v8 = x8) {c0 c1 c2 c3 : Vec Ideal S1x1x128 .fp8e4m3} (h0 : ∀ j, c0 (ix3 0 0 j) = x6 (ix3 0 0 (col 0 j)))
    (h1 : ∀ j, c1 (ix3 0 0 j) = x6 (ix3 0 0 (col 1 j))) (h2 : ∀ j, c2 (ix3 0 0 j) = x6 (ix3 0 0 (col 2 j)))
    (h3 : ∀ j, c3 (ix3 0 0 j) = x6 (ix3 0 0 (col 3 j))) :
    k0_pay7 (F := Ideal) (k0_pay4 v1) (k0_pay6 v0 v7 c0 c1 c2 c3) v8 (ix2 h 0) = (row x0 x1 x2 x3 x4 x5 x6 x7 x8 n h).sn := by
  subst e0 e1 e7 e8
  rw [sn_apply]
  simp only [latn_row v0 v1 x2 x3 x4 x5 x6 v7 v8 n h rfl h0 h1 h2 h3]
  rfl

end Row

/-! ## The result's columns -/

/-- A group's columns of the new key. -/
def latnCols (v : FVec Ideal S1x512 .bf16) (g : Fin 4) : FVec Ideal S1x128 .bf16 :=
  match g with
  | 0 => extractStridedSlice S1x128 ![0, 0] v slices_S1x512_o0_0_S1x128
  | 1 => extractStridedSlice S1x128 ![0, 128] v slices_S1x512_o0_128_S1x128
  | 2 => extractStridedSlice S1x128 ![0, 256] v slices_S1x512_o0_256_S1x128
  | 3 => extractStridedSlice S1x128 ![0, 384] v slices_S1x512_o0_384_S1x128

/-- A group's columns of the keys. -/
def kvCols (v : FVec Ideal S512x512 .bf16) (g : Fin 4) : FVec Ideal S512x128 .bf16 :=
  match g with
  | 0 => extractStridedSlice S512x128 ![0, 0] v slices_S512x512_o0_0_S512x128
  | 1 => extractStridedSlice S512x128 ![0, 128] v slices_S512x512_o0_128_S512x128
  | 2 => extractStridedSlice S512x128 ![0, 256] v slices_S512x512_o0_256_S512x128
  | 3 => extractStridedSlice S512x128 ![0, 384] v slices_S512x512_o0_384_S512x128

theorem latnCols_apply (v : FVec Ideal S1x512 .bf16) (g : Fin 4) (j : Fin 128) : latnCols v g (ix2 0 j) = v (ix2 0 (col g j)) := by
  match g with
  | 0 => pointwise [latnCols, col]
  | 1 => pointwise [latnCols, col]
  | 2 => pointwise [latnCols, col]
  | 3 => pointwise [latnCols, col]

theorem kvCols_apply (v : FVec Ideal S512x512 .bf16) (g : Fin 4) (k : Fin 512) (j : Fin 128) :
    kvCols v g (ix2 k j) = v (ix2 k (col g j)) := by
  match g with
  | 0 => pointwise [kvCols, col]
  | 1 => pointwise [kvCols, col]
  | 2 => pointwise [kvCols, col]
  | 3 => pointwise [kvCols, col]

/-- A block's probabilities. -/
def prob (s : FVec Ideal S64x128 .f32) (l : FVec Ideal S64x1 .f32) : FVec Ideal S64x128 .bf16 :=
  truncf .bf16 (exp (subf s (broadcastTo S64x128 l broadcasts_S64x1_S64x128))) bitsLt_bf16_f32

/-- The new key's. -/
def newProb (s l : FVec Ideal S64x1 .f32) : FVec Ideal S64x1 .bf16 := truncf .bf16 (exp (subf s l)) bitsLt_bf16_f32

theorem prob_apply (s : FVec Ideal S64x128 .f32) (l : FVec Ideal S64x1 .f32) (h : Fin 64) (j : Fin 128) :
    prob s l (ix2 h j) = Ideal.exp ((s (ix2 h j) : EReal) - l (ix2 h 0)) := by
  pointwise [prob]

theorem newProb_apply (s l : FVec Ideal S64x1 .f32) (h : Fin 64) :
    newProb s l (ix2 h 0) = Ideal.exp ((s (ix2 h 0) : EReal) - l (ix2 h 0)) := by
  pointwise [newProb]

/-- A group's columns of the result. -/
def cols (g : Fin 4) (lat : FVec Ideal S1x512 .bf16) (kv : FVec Ideal S512x512 .bf16) (sn l : FVec Ideal S64x1 .f32)
    (s0 s1 s2 s3 : FVec Ideal S64x128 .f32) (a0 a1 a2 a3 : Vec Ideal S1x1x128 .f32) : FVec Ideal S1x64x128 .bf16 :=
  outTile (latnCols lat g) (kvCols kv g) (newProb sn l) (prob s0 l) (prob s1 l) (prob s2 l) (prob s3 l) a0 a1 a2 a3

/-- They are the row's. -/
theorem cols_row {R : Model.Row} {h : Fin 64} (g : Fin 4) {lat : FVec Ideal S1x512 .bf16} {kv v2 : Vec Ideal S1x512x512 .fp8e4m3} (e2 : v2 = kv)
    {sn l : FVec Ideal S64x1 .f32} {s0 s1 s2 s3 : FVec Ideal S64x128 .f32} {a0 a1 a2 a3 : Vec Ideal S1x1x128 .f32}
    (hlat : ∀ i, lat (ix2 0 i) = R.latn i) (hkv : ∀ k i, kv (ix3 0 k i) = R.c k i) (hsn : sn (ix2 h 0) = R.sn)
    (hl : l (ix2 h 0) = R.kerLse) (h0 : ∀ j, s0 (ix2 h j) = R.kerS (col 0 j)) (h1 : ∀ j, s1 (ix2 h j) = R.kerS (col 1 j))
    (h2 : ∀ j, s2 (ix2 h j) = R.kerS (col 2 j)) (h3 : ∀ j, s3 (ix2 h j) = R.kerS (col 3 j))
    (b0 : ∀ j, a0 (ix3 0 0 j) = R.a (col 0 j) g) (b1 : ∀ j, a1 (ix3 0 0 j) = R.a (col 1 j) g)
    (b2 : ∀ j, a2 (ix3 0 0 j) = R.a (col 2 j) g) (b3 : ∀ j, a3 (ix3 0 0 j) = R.a (col 3 j) g) (j : Fin 128) :
    cols g lat (k0_pay8 v2) sn l s0 s1 s2 s3 a0 a1 a2 a3 (ix3 0 h j) = R.kerOut R.kerLse (col g j) := by
  subst e2
  have hk : ∀ k i, k0_pay8 (F := Ideal) v2 (ix2 k i) = R.c k i := fun k i => by
    rw [← hkv]; pointwise [k0_pay8]
  unfold cols
  rw [outTile_apply]
  simp only [latnCols_apply, kvCols_apply, prob_apply, newProb_apply, hl, hsn, hlat, hk]
  rw [show Model.cat4 (fun j => Ideal.exp ((s0 (ix2 h j) : EReal) - R.kerLse)) (fun j => Ideal.exp ((s1 (ix2 h j) : EReal) - R.kerLse))
      (fun j => Ideal.exp ((s2 (ix2 h j) : EReal) - R.kerLse)) (fun j => Ideal.exp ((s3 (ix2 h j) : EReal) - R.kerLse))
      = fun k => Ideal.exp (R.kerS k - R.kerLse) from funext (Model.cat4_eq (fun k => Ideal.exp (R.kerS k - R.kerLse))
        (fun j => by rw [h0]) (fun j => by rw [h1]) (fun j => by rw [h2]) fun j => by rw [h3]),
    show Model.cat4 (fun j => a0 (ix3 0 0 j)) (fun j => a1 (ix3 0 0 j)) (fun j => a2 (ix3 0 0 j)) (fun j => a3 (ix3 0 0 j))
      = fun k => R.a k g from funext (Model.cat4_eq (fun k => R.a k g) b0 b1 b2 b3)]
  have e : grp (col g j) = g := Fin.ext (by show (128 * g.val + j.val) / 128 = g.val; omega)
  unfold Model.Row.kerOut
  rw [e]

/-! ## The body's four spellings -/

variable (lat : FVec Ideal S1x512 .bf16) (kv : FVec Ideal S512x512 .bf16) (sn : FVec Ideal S64x1 .f32)
  (s0 s1 s2 t : FVec Ideal S64x128 .f32) (n : EReal) (b : IVec S1x128 1) (a0 a1 a2 a3 : Vec Ideal S1x1x128 .f32)

theorem cols0_eq : k0_pay37 (F := Ideal) lat kv s2 (k0_pay31 t n b) (k0_pay32 sn s0 s1 s2 t n b) (k0_pay33 sn s0 s1 s2 t n b)
    (k0_pay34 sn s0 s1 s2 t n b) (k0_pay35 sn s0 s1 s2 t n b) a0 a1 a2 a3
    = cols 0 lat kv sn (k0_pay32 sn s0 s1 s2 t n b) s0 s1 s2 (k0_pay31 t n b) a0 a1 a2 a3 := rfl

theorem cols1_eq : k0_pay38 (F := Ideal) lat kv (k0_pay33 sn s0 s1 s2 t n b)
    (k0_pay36 s2 (k0_pay31 t n b) (k0_pay32 sn s0 s1 s2 t n b) (k0_pay34 sn s0 s1 s2 t n b) (k0_pay35 sn s0 s1 s2 t n b)) a0 a1 a2 a3
    = cols 1 lat kv sn (k0_pay32 sn s0 s1 s2 t n b) s0 s1 s2 (k0_pay31 t n b) a0 a1 a2 a3 := rfl

theorem cols2_eq : k0_pay42 (F := Ideal) lat kv (k0_pay33 sn s0 s1 s2 t n b)
    (k0_pay36 s2 (k0_pay31 t n b) (k0_pay32 sn s0 s1 s2 t n b) (k0_pay34 sn s0 s1 s2 t n b) (k0_pay35 sn s0 s1 s2 t n b))
    (k0_pay39 a0) (k0_pay40 a1) (k0_pay41 a2) a3
    = cols 2 lat kv sn (k0_pay32 sn s0 s1 s2 t n b) s0 s1 s2 (k0_pay31 t n b) a0 a1 a2 a3 := rfl

theorem cols3_eq : k0_pay1 (F := Ideal) (k0_pay43 lat (k0_pay33 sn s0 s1 s2 t n b))
    (k0_pay44 (k0_pay36 s2 (k0_pay31 t n b) (k0_pay32 sn s0 s1 s2 t n b) (k0_pay34 sn s0 s1 s2 t n b) (k0_pay35 sn s0 s1 s2 t n b)) a0 a1 a2 a3)
    (k0_pay45 kv)
    = cols 3 lat kv sn (k0_pay32 sn s0 s1 s2 t n b) s0 s1 s2 (k0_pay31 t n b) a0 a1 a2 a3 := rfl

/-! ## From the scores to the results -/

theorem lse4_congr {s s' : EReal} {f0 f1 f2 f3 g0 g1 g2 g3 : Fin 128 → EReal} (h : s = s') (h0 : ∀ j, f0 j = g0 j)
    (h1 : ∀ j, f1 j = g1 j) (h2 : ∀ j, f2 j = g2 j) (h3 : ∀ j, f3 j = g3 j) :
    Model.lse4 s f0 f1 f2 f3 = Model.lse4 s' g0 g1 g2 g3 := by
  rw [h, funext h0, funext h1, funext h2, funext h3]

variable {lat kv sn s0 s1 s2 t n b a0 a1 a2 a3}

/-- The logarithm of the sum is the row's where the scores are. -/
theorem lse_row {R : Model.Row} {h : Fin 64} (hsn : sn (ix2 h 0) = R.sn) (h0 : ∀ j, s0 (ix2 h j) = R.kerS (col 0 j))
    (h1 : ∀ j, s1 (ix2 h j) = R.kerS (col 1 j)) (h2 : ∀ j, s2 (ix2 h j) = R.kerS (col 2 j))
    (h3 : ∀ j, k0_pay31 (F := Ideal) t n b (ix2 h j) = R.kerS (col 3 j)) :
    k0_pay32 (F := Ideal) sn s0 s1 s2 t n b (ix2 h 0) = R.kerLse :=
  (lse_apply _ _ _ _ _ _ _ _ rfl h).trans (lse4_congr hsn h0 h1 h2 h3)

/-- A group's columns at an index of their tile are the rows' at the index of the whole under it. -/
theorem cols_at {R : Fin 64 → Model.Row} (g : Fin 4) {v2 : Vec Ideal S1x512x512 .fp8e4m3} (x : S1x64x128.Idx) (y1 : Fin 64) (y2 : Fin 512)
    (e1 : y1.val = 0 + (x 1).val) (e2 : y2.val = 128 * g.val + (x 2).val) (hlat : ∀ h i, lat (ix2 0 i) = (R h).latn i)
    (hkv : ∀ h k i, v2 (ix3 0 k i) = (R h).c k i) (hsn : ∀ h, sn (ix2 h 0) = (R h).sn)
    (h0 : ∀ h j, s0 (ix2 h j) = (R h).kerS (col 0 j)) (h1 : ∀ h j, s1 (ix2 h j) = (R h).kerS (col 1 j))
    (h2 : ∀ h j, s2 (ix2 h j) = (R h).kerS (col 2 j)) (h3 : ∀ h j, k0_pay31 (F := Ideal) t n b (ix2 h j) = (R h).kerS (col 3 j))
    (b0 : ∀ h j, a0 (ix3 0 0 j) = (R h).a (col 0 j) g) (b1 : ∀ h j, a1 (ix3 0 0 j) = (R h).a (col 1 j) g)
    (b2 : ∀ h j, a2 (ix3 0 0 j) = (R h).a (col 2 j) g) (b3 : ∀ h j, a3 (ix3 0 0 j) = (R h).a (col 3 j) g) :
    cols g lat (k0_pay8 v2) sn (k0_pay32 sn s0 s1 s2 t n b) s0 s1 s2 (k0_pay31 t n b) a0 a1 a2 a3 x
      = (R y1).kerOut (R y1).kerLse y2 := by
  have hx : x = ix3 0 y1 (x 2) := by
    funext a
    match a with
    | 0 => exact Subsingleton.elim (α := Fin 1) _ _
    | 1 => exact Fin.ext (e1.trans (Nat.zero_add _)).symm
    | 2 => rfl
  have hy : y2 = col g (x 2) := Fin.ext e2
  rw [hx, hy]
  exact cols_row g rfl (hlat y1) (hkv y1) (hsn y1) (lse_row (hsn y1) (h0 y1) (h1 y1) (h2 y1) (h3 y1)) (h0 y1) (h1 y1) (h2 y1) (h3 y1)
    (b0 y1) (b1 y1) (b2 y1) (b3 y1) (x 2)

end Cert.KernelIdeal.RefValue

end
-- ==== Proof.KernelBlock.lean ====
/-
  What the kernel's body leaves at a grid point, from the point's blocks.
-/
module

public import proofs.«01_k».proof.Proof.Gen.KernelIdeal.Frame
public import proofs.«01_k».proof.Proof.KernelRow
import Idealize.ShloMosaic.Lib.Pipeline.ValueKit.Tiles

@[expose] public section

set_option maxRecDepth 16384

noncomputable section

namespace Cert.KernelIdeal.RefValue

open Idealize.ShloMosaic Idealize.ShloMosaic.TcCoe Idealize.SL.Sem Cert Cert.KernelIdeal Cert.KernelIdeal.Gen

theorem pay2_apply (v : FVec Ideal S64x1 .f32) (h : Fin 64) : k0_pay2 v (ix3 0 h 0) = v (ix2 h 0) := by
  pointwise [k0_pay2]

theorem hz3 : (![0, 0, 0] : Fin 3 → Nat) = fun _ => 0 := by decide

variable (c : Dev nD) (i : grid0.Coords) (arg2 : Memref sig .tc .vmem S1x64x512 .bf16) (harg2 : arg2.IsWhole) (arg3 : Memref sig .tc .vmem S1x64x64 .bf16) (harg3 : arg3.IsWhole) (arg4 : Memref sig .tc .vmem S1x512x512 .fp8e4m3) (harg4 : arg4.IsWhole) (arg5 : Memref sig .tc .vmem S1x128x128 .i32) (harg5 : arg5.IsWhole) (arg6 : Memref sig .tc .vmem S1x16x128 .f32) (harg6 : arg6.IsWhole) (arg7 : Memref sig .tc .vmem S1x4x128 .i32) (harg7 : arg7.IsWhole) (arg8 : Memref sig .tc .vmem S1x1x512 .fp8e4m3) (harg8 : arg8.IsWhole) (arg9 : Memref sig .tc .vmem S1x1x4 .f32) (harg9 : arg9.IsWhole) (arg10 : Memref sig .tc .vmem S1x1x64 .bf16) (harg10 : arg10.IsWhole) (arg11 : Memref sig .tc .vmem S1x64x512 .bf16) (harg11 : arg11.IsWhole) (arg12 : Memref sig .tc .vmem S1x64x1 .f32) (harg12 : arg12.IsWhole)
    (x0 : Vec Ideal S1x64x512 .bf16) (x1 : Vec Ideal S1x64x64 .bf16) (x2 : Vec Ideal S1x512x512 .fp8e4m3) (x3 : Vec Ideal S1x128x128 .i32) (x4 : Vec Ideal S1x16x128 .f32) (x5 : Vec Ideal S1x4x128 .i32) (x6 : Vec Ideal S1x1x512 .fp8e4m3) (x7 : Vec Ideal S1x1x4 .f32) (x8 : Vec Ideal S1x1x64 .bf16) (xt0 : TbBuf0 (F := Ideal) c tbM0_0)

/-- The point's cache length. -/
def word : BitVec 32 := xt0 (ix1 (i 0))

theorem word_eq (h₁) (h₂) : View.ld (View.read (Elt Ideal) (View.whole main_arg5) xt0)
    (Rect.unit ![BitVec.toNat (Scalar.indexCast (BitVec.ofNat 32 (i 0).val))] ![1] h₁) (Shape.Idx.first h₂) = word c i xt0 := by
  refine (View.ld_apply _ _ _).trans (congrArg xt0 ?_)
  funext a
  match a with
  | 0 =>
    refine Fin.ext ?_
    have hi : (i 0).val < 32 := (i 0).isLt
    show (BitVec.ofNat 32 (i 0).val).toNat + 1 * 0 = (i 0).val
    rw [BitVec.toNat_ofNat, Nat.mod_eq_of_lt (by omega)]
    rfl

theorem lse_block (h : Fin 64) : out0_A_10 c i arg2 harg2 arg3 harg3 arg4 harg4 arg5 harg5 arg6 harg6 arg7 harg7 arg8 harg8 arg9 harg9 arg10 harg10 arg11 harg11 arg12 harg12 x0 x1 x2 x3 x4 x5 x6 x7 x8 xt0 (ix3 0 h 0) = (row x0 x1 x2 x3 x4 x5 x6 x7 x8 (word c i xt0) h).kerLse := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8 xt0)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  rw [View.canon_unit_zero hz3]
  refine (pay2_apply _ h).trans ((lse_apply _ _ _ _ _ _ _ _ (score3_eq ..) h).trans ?_)
  refine lse4_congr (sn_row x0 x1 x2 x3 x4 x5 x6 x7 x8 (word c i xt0) h (View.ld_unit_zero hz3 _ _) (View.ld_unit_zero hz3 _ _) (View.ld_unit_zero hz3 _ _) (View.ld_unit_zero hz3 _ _) ?_ ?_ ?_ ?_)
    (fun j => (congrFun (score0_eq ..) _).trans (score_row x0 x1 x2 x3 x4 x5 x6 x7 x8 _ h 0 (View.ld_unit_zero hz3 _ _) (View.ld_unit_zero hz3 _ _) (View.ld_unit_zero hz3 _ _) (word_eq ..) ?_ ?_ ?_ ?_ ?_ ?_ j))
    (fun j => (congrFun (score1_eq ..) _).trans (score_row x0 x1 x2 x3 x4 x5 x6 x7 x8 _ h 1 (View.ld_unit_zero hz3 _ _) (View.ld_unit_zero hz3 _ _) (View.ld_unit_zero hz3 _ _) (word_eq ..) ?_ ?_ ?_ ?_ ?_ ?_ j))
    (fun j => (congrFun (score2_eq ..) _).trans (score_row x0 x1 x2 x3 x4 x5 x6 x7 x8 _ h 2 (View.ld_unit_zero hz3 _ _) (View.ld_unit_zero hz3 _ _) (View.ld_unit_zero hz3 _ _) (word_eq ..) ?_ ?_ ?_ ?_ ?_ ?_ j))
    (fun j => score_row x0 x1 x2 x3 x4 x5 x6 x7 x8 _ h 3 (View.ld_unit_zero hz3 _ _) (View.ld_unit_zero hz3 _ _) (View.ld_unit_zero hz3 _ _) (word_eq ..) ?_ ?_ ?_ ?_ ?_ ?_ j)
  all_goals intros; exact (View.ld_apply _ _ _).trans (congrArg _ (by idx_ext))

theorem out_block (y : S1x64x512.Idx) : out0_A_9 c i arg2 harg2 arg3 harg3 arg4 harg4 arg5 harg5 arg6 harg6 arg7 harg7 arg8 harg8 arg9 harg9 arg10 harg10 arg11 harg11 arg12 harg12 x0 x1 x2 x3 x4 x5 x6 x7 x8 xt0 y =
    (row x0 x1 x2 x3 x4 x5 x6 x7 x8 (word c i xt0) (y 1)).kerOut (row x0 x1 x2 x3 x4 x5 x6 x7 x8 (word c i xt0) (y 1)).kerLse (y 2) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8 xt0)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread]
  canon_tiles x h
  rotate_left 3
  on_goal 1 => refine (congrFun (cols0_eq ..) _).trans ?_
  on_goal 2 => refine (congrFun (cols3_eq ..) _).trans ?_
  on_goal 3 => refine (congrFun (cols2_eq ..) _).trans ?_
  on_goal 4 => refine (congrFun (cols1_eq ..) _).trans ?_
  all_goals
   refine cols_at (R := fun h => row x0 x1 x2 x3 x4 x5 x6 x7 x8 (word c i xt0) h) _ x (y 1) (y 2)
    (h1.trans (Nat.zero_add _).symm) (by first | exact h2 | exact h2.trans (Nat.zero_add _).symm)
    (fun h => latn_row x0 x1 x2 x3 x4 x5 x6 x7 x8 _ h (View.ld_unit_zero hz3 _ _) ?_ ?_ ?_ ?_) (fun h k i => congrFun (View.ld_unit_zero hz3 _ x2) _)
    (fun h => sn_row x0 x1 x2 x3 x4 x5 x6 x7 x8 (word c i xt0) h (View.ld_unit_zero hz3 _ _) (View.ld_unit_zero hz3 _ _) (View.ld_unit_zero hz3 _ _) (View.ld_unit_zero hz3 _ _) ?_ ?_ ?_ ?_)
    (fun h j => (congrFun (score0_eq ..) _).trans (score_row x0 x1 x2 x3 x4 x5 x6 x7 x8 _ h 0 (View.ld_unit_zero hz3 _ _) (View.ld_unit_zero hz3 _ _) (View.ld_unit_zero hz3 _ _) (word_eq ..) ?_ ?_ ?_ ?_ ?_ ?_ j))
    (fun h j => (congrFun (score1_eq ..) _).trans (score_row x0 x1 x2 x3 x4 x5 x6 x7 x8 _ h 1 (View.ld_unit_zero hz3 _ _) (View.ld_unit_zero hz3 _ _) (View.ld_unit_zero hz3 _ _) (word_eq ..) ?_ ?_ ?_ ?_ ?_ ?_ j))
    (fun h j => (congrFun (score2_eq ..) _).trans (score_row x0 x1 x2 x3 x4 x5 x6 x7 x8 _ h 2 (View.ld_unit_zero hz3 _ _) (View.ld_unit_zero hz3 _ _) (View.ld_unit_zero hz3 _ _) (word_eq ..) ?_ ?_ ?_ ?_ ?_ ?_ j))
    (fun h j => (congrFun (score3_eq ..) _).trans (score_row x0 x1 x2 x3 x4 x5 x6 x7 x8 _ h 3 (View.ld_unit_zero hz3 _ _) (View.ld_unit_zero hz3 _ _) (View.ld_unit_zero hz3 _ _) (word_eq ..) ?_ ?_ ?_ ?_ ?_ ?_ j))
    ?_ ?_ ?_ ?_
  all_goals intros; exact (View.ld_apply _ _ _).trans (congrArg _ (by idx_ext))

end Cert.KernelIdeal.RefValue

end
-- ==== Proof.KernelEntry.lean ====
/-
  The blocks of the idealized kernel's grid point `t`, read at an index: batch `t` of the arguments.
-/
module

public import proofs.«01_k».proof.Proof.Gen.KernelIdeal.Frame
public import proofs.«01_k».proof.Proof.ArgRow
public import proofs.«01_k».proof.Proof.KernelBlock
import Idealize.ShloMosaic.Lib.Claim
import Idealize.ShloMosaic.Lib.Pointwise
import Idealize.ShloMosaic.Lib.BitcastConvert
import Idealize.ShloMosaic.Lib.Pipeline.ValueKit

@[expose] public section

set_option maxRecDepth 16384

noncomputable section

namespace Cert.KernelIdeal.RefValue

open Idealize.ShloMosaic Idealize.ShloMosaic.TcCoe Idealize.SL.Sem Cert Cert.KernelIdeal Cert.KernelIdeal.Gen

variable (m : (ℓ : Loc nD τ sig) → Buf (Elt Ideal) ℓ) (hO : Ok m) (c : Dev nD) (t : Fin grid0.N)

/-- A grid point's batch. -/
def bat (t : Fin grid0.N) : Fin 32 := ⟨t.val, N_0 ▸ t.isLt⟩

theorem V0 (h : Fin 64) (i : Fin 512) (b : Fin 32) : (V m c main_v3 : Vec Ideal S32x64x512 .bf16) (ix3 b h i) = (m ((c : Thread nD τ).loc main_arg0) : Vec Ideal S32x1x64x512 .bf16) (ix4 b 0 h i) := by
  entry_read
  pointwise
theorem V1 (h : Fin 64) (i : Fin 64) (b : Fin 32) : (V m c main_v4 : Vec Ideal S32x64x64 .bf16) (ix3 b h i) = (m ((c : Thread nD τ).loc main_arg1) : Vec Ideal S32x1x64x64 .bf16) (ix4 b 0 h i) := by
  entry_read
  pointwise
theorem V2 (k i : Fin 512) (b : Fin 32) : (V m c main_v0 : Vec Ideal S32x512x512 .fp8e4m3) (ix3 b k i) = Ideal.ofBits .fp8e4m3 ((m ((c : Thread nD τ).loc main_arg2) : Vec Ideal S32x512x512 .i8) (ix3 b k i) : BitVec 8) := by
  entry_read
  rfl
theorem V6 (i : Fin 512) (b : Fin 32) : (V m c main_v1 : Vec Ideal S32x1x512 .fp8e4m3) (ix3 b 0 i) = Ideal.ofBits .fp8e4m3 ((m ((c : Thread nD τ).loc main_arg6) : Vec Ideal S32x1x512 .i8) (ix3 b 0 i) : BitVec 8) := by
  entry_read
  rfl
theorem V5 (k : Fin 512) (b : Fin 32) : (V m c main_v2 : Vec Ideal S32x4x128 .i32) (ix3 b ⟨k.val / 128, by omega⟩ ⟨k.val % 128, by omega⟩) = (m ((c : Thread nD τ).loc main_arg9) : Vec Ideal S32x1x512 .i32) (ix3 b 0 k) := by
  entry_read
  pointwise
  blk_ext []

/-- Every window's block of grid point `t` is batch `t`. -/
theorem idx : ∀ t : Fin grid0.N, (cc0_transform_0 (grid0.coords t) = ![t.val, 0, 0] ∧ cc0_transform_1 (grid0.coords t) = ![t.val, 0, 0]
    ∧ cc0_transform_2 (grid0.coords t) = ![t.val, 0, 0] ∧ cc0_transform_3 (grid0.coords t) = ![t.val, 0, 0]
    ∧ cc0_transform_4 (grid0.coords t) = ![t.val, 0, 0] ∧ cc0_transform_5 (grid0.coords t) = ![t.val, 0, 0]
    ∧ cc0_transform_6 (grid0.coords t) = ![t.val, 0, 0] ∧ cc0_transform_7 (grid0.coords t) = ![t.val, 0, 0]
    ∧ cc0_transform_8 (grid0.coords t) = ![t.val, 0, 0] ∧ cc0_transform_9 (grid0.coords t) = ![t.val, 0, 0]
    ∧ cc0_transform_10 (grid0.coords t) = ![t.val, 0, 0] ∧ (grid0.coords t 0 : Nat) = t.val) := by decide +kernel

/-- An index read through a block of extent `(1, p, q)` at `(n, 0, 0)`. -/
theorem at3 {p q : Nat} {n i0 i1 i2 : Nat} (b : Fin 32) (x : Fin p) (y : Fin q) (h0 : i0 = n) (h1 : i1 = 0) (h2 : i2 = 0)
    (hb : b.val = n) : i0 * 1 + 1 * 0 = b.val ∧ i1 * p + 1 * x.val = x.val ∧ i2 * q + 1 * y.val = y.val := by
  subst h0 h1 h2; simp [hb]

theorem blk0 (x : Fin 64) (y : Fin 512) : (iblk m hO c 0 t : Vec Ideal S1x64x512 .bf16) (ix3 0 x y) = (V m c main_v3 : Vec Ideal S32x64x512 .bf16) (ix3 (bat t) x y) := by
  have e := (idx t).1
  obtain ⟨h0, h1, h2⟩ := at3 (bat t) x y (congrFun e 0) (congrFun e 1) (congrFun e 2) rfl
  refine congrArg (V m c main_v3 : Vec Ideal S32x64x512 .bf16) (?_ : (((cfgM m hO).win 0).blk t).view.emb (ix3 0 x y) = _)
  funext a
  apply Fin.ext
  match a with
  | ⟨0, _⟩ => exact h0
  | ⟨1, _⟩ => exact h1
  | ⟨2, _⟩ => exact h2

theorem blk1 (x : Fin 64) (y : Fin 64) : (iblk m hO c 1 t : Vec Ideal S1x64x64 .bf16) (ix3 0 x y) = (V m c main_v4 : Vec Ideal S32x64x64 .bf16) (ix3 (bat t) x y) := by
  have e := (idx t).2.1
  obtain ⟨h0, h1, h2⟩ := at3 (bat t) x y (congrFun e 0) (congrFun e 1) (congrFun e 2) rfl
  refine congrArg (V m c main_v4 : Vec Ideal S32x64x64 .bf16) (?_ : (((cfgM m hO).win 1).blk t).view.emb (ix3 0 x y) = _)
  funext a
  apply Fin.ext
  match a with
  | ⟨0, _⟩ => exact h0
  | ⟨1, _⟩ => exact h1
  | ⟨2, _⟩ => exact h2

theorem blk2 (x : Fin 512) (y : Fin 512) : (iblk m hO c 2 t : Vec Ideal S1x512x512 .fp8e4m3) (ix3 0 x y) = (V m c main_v0 : Vec Ideal S32x512x512 .fp8e4m3) (ix3 (bat t) x y) := by
  have e := (idx t).2.2.1
  obtain ⟨h0, h1, h2⟩ := at3 (bat t) x y (congrFun e 0) (congrFun e 1) (congrFun e 2) rfl
  refine congrArg (V m c main_v0 : Vec Ideal S32x512x512 .fp8e4m3) (?_ : (((cfgM m hO).win 2).blk t).view.emb (ix3 0 x y) = _)
  funext a
  apply Fin.ext
  match a with
  | ⟨0, _⟩ => exact h0
  | ⟨1, _⟩ => exact h1
  | ⟨2, _⟩ => exact h2

theorem blk3 (x : Fin 128) (y : Fin 128) : (iblk m hO c 3 t : Vec Ideal S1x128x128 .i32) (ix3 0 x y) = (V m c main_arg3 : Vec Ideal S32x128x128 .i32) (ix3 (bat t) x y) := by
  have e := (idx t).2.2.2.1
  obtain ⟨h0, h1, h2⟩ := at3 (bat t) x y (congrFun e 0) (congrFun e 1) (congrFun e 2) rfl
  refine congrArg (V m c main_arg3 : Vec Ideal S32x128x128 .i32) (?_ : (((cfgM m hO).win 3).blk t).view.emb (ix3 0 x y) = _)
  funext a
  apply Fin.ext
  match a with
  | ⟨0, _⟩ => exact h0
  | ⟨1, _⟩ => exact h1
  | ⟨2, _⟩ => exact h2

theorem blk4 (x : Fin 16) (y : Fin 128) : (iblk m hO c 4 t : Vec Ideal S1x16x128 .f32) (ix3 0 x y) = (V m c main_arg4 : Vec Ideal S32x16x128 .f32) (ix3 (bat t) x y) := by
  have e := (idx t).2.2.2.2.1
  obtain ⟨h0, h1, h2⟩ := at3 (bat t) x y (congrFun e 0) (congrFun e 1) (congrFun e 2) rfl
  refine congrArg (V m c main_arg4 : Vec Ideal S32x16x128 .f32) (?_ : (((cfgM m hO).win 4).blk t).view.emb (ix3 0 x y) = _)
  funext a
  apply Fin.ext
  match a with
  | ⟨0, _⟩ => exact h0
  | ⟨1, _⟩ => exact h1
  | ⟨2, _⟩ => exact h2

theorem blk5 (x : Fin 4) (y : Fin 128) : (iblk m hO c 5 t : Vec Ideal S1x4x128 .i32) (ix3 0 x y) = (V m c main_v2 : Vec Ideal S32x4x128 .i32) (ix3 (bat t) x y) := by
  have e := (idx t).2.2.2.2.2.1
  obtain ⟨h0, h1, h2⟩ := at3 (bat t) x y (congrFun e 0) (congrFun e 1) (congrFun e 2) rfl
  refine congrArg (V m c main_v2 : Vec Ideal S32x4x128 .i32) (?_ : (((cfgM m hO).win 5).blk t).view.emb (ix3 0 x y) = _)
  funext a
  apply Fin.ext
  match a with
  | ⟨0, _⟩ => exact h0
  | ⟨1, _⟩ => exact h1
  | ⟨2, _⟩ => exact h2

theorem blk6 (x : Fin 1) (y : Fin 512) : (iblk m hO c 6 t : Vec Ideal S1x1x512 .fp8e4m3) (ix3 0 x y) = (V m c main_v1 : Vec Ideal S32x1x512 .fp8e4m3) (ix3 (bat t) x y) := by
  have e := (idx t).2.2.2.2.2.2.1
  obtain ⟨h0, h1, h2⟩ := at3 (bat t) x y (congrFun e 0) (congrFun e 1) (congrFun e 2) rfl
  refine congrArg (V m c main_v1 : Vec Ideal S32x1x512 .fp8e4m3) (?_ : (((cfgM m hO).win 6).blk t).view.emb (ix3 0 x y) = _)
  funext a
  apply Fin.ext
  match a with
  | ⟨0, _⟩ => exact h0
  | ⟨1, _⟩ => exact h1
  | ⟨2, _⟩ => exact h2

theorem blk7 (x : Fin 1) (y : Fin 4) : (iblk m hO c 7 t : Vec Ideal S1x1x4 .f32) (ix3 0 x y) = (V m c main_arg7 : Vec Ideal S32x1x4 .f32) (ix3 (bat t) x y) := by
  have e := (idx t).2.2.2.2.2.2.2.1
  obtain ⟨h0, h1, h2⟩ := at3 (bat t) x y (congrFun e 0) (congrFun e 1) (congrFun e 2) rfl
  refine congrArg (V m c main_arg7 : Vec Ideal S32x1x4 .f32) (?_ : (((cfgM m hO).win 7).blk t).view.emb (ix3 0 x y) = _)
  funext a
  apply Fin.ext
  match a with
  | ⟨0, _⟩ => exact h0
  | ⟨1, _⟩ => exact h1
  | ⟨2, _⟩ => exact h2

theorem blk8 (x : Fin 1) (y : Fin 64) : (iblk m hO c 8 t : Vec Ideal S1x1x64 .bf16) (ix3 0 x y) = (V m c main_arg8 : Vec Ideal S32x1x64 .bf16) (ix3 (bat t) x y) := by
  have e := (idx t).2.2.2.2.2.2.2.2.1
  obtain ⟨h0, h1, h2⟩ := at3 (bat t) x y (congrFun e 0) (congrFun e 1) (congrFun e 2) rfl
  refine congrArg (V m c main_arg8 : Vec Ideal S32x1x64 .bf16) (?_ : (((cfgM m hO).win 8).blk t).view.emb (ix3 0 x y) = _)
  funext a
  apply Fin.ext
  match a with
  | ⟨0, _⟩ => exact h0
  | ⟨1, _⟩ => exact h1
  | ⟨2, _⟩ => exact h2

/-- The table's word of the point is its batch's cache length. -/
theorem word_entry : word c (grid0.coords t) (tbl m 0) = (m ((c : Thread nD τ).loc main_arg5) : Vec Ideal S32 .i32) (ix1 (bat t)) := by
  obtain rfl : c = 0 := Subsingleton.elim _ _
  have e : (ix1 (grid0.coords t 0) : S32.Idx) = ix1 (bat t) := congrArg ix1 (Fin.ext (idx t).2.2.2.2.2.2.2.2.2.2.2)
  exact (congrArg (tbl m 0 : Vec Ideal S32 .i32) e).trans (congrFun (V_main_arg5 m 0) _)

/-- The row of batch `b` and head `h` in the arguments of device `c`. -/
abbrev rowOf (b : Fin 32) (h : Fin 64) : Model.Row :=
  argRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) b h

/-- The point's blocks hold the rows of its batch. -/
theorem row_entry (h : Fin 64) : row (iblk m hO c 0 t) (iblk m hO c 1 t) (iblk m hO c 2 t) (iblk m hO c 3 t) (iblk m hO c 4 t)
    (iblk m hO c 5 t) (iblk m hO c 6 t) (iblk m hO c 7 t) (iblk m hO c 8 t) (word c (grid0.coords t) (tbl m 0)) h = rowOf m c (bat t) h := by
  refine Model.Row.ext' ?_ ?_ ?_ ?_ ?_ ?_ ?_ ?_ ?_
  · exact fun i => (blk0 m hO c t h i).trans (V0 m c h i _)
  · exact fun i => (blk1 m hO c t h i).trans (V1 m c h i _)
  · exact fun k i => (blk2 m hO c t k i).trans (V2 m c k i _)
  · exact fun k r => congrArg (fun w : BitVec 32 => Ideal.ofBits .bf16 (w.extractLsb' (16 * (r.val % 2)) 16))
      ((blk3 m hO c t _ _).trans (congrFun (V_main_arg3 m c) _))
  · exact fun k g => (blk4 m hO c t _ _).trans (congrFun (V_main_arg4 m c) _)
  · exact fun i => (blk6 m hO c t 0 i).trans (V6 m c i _)
  · exact fun g => (blk7 m hO c t 0 g).trans (congrFun (V_main_arg7 m c) _)
  · exact fun g => (blk8 m hO c t 0 g).trans (congrFun (V_main_arg8 m c) _)
  · exact fun k => congrArg₂ valid ((blk5 m hO c t _ _).trans (V5 m c k _)) (word_entry m c t)

end Cert.KernelIdeal.RefValue

end
-- ==== Proof.KernelArray.lean ====
/-
  The idealized kernel's result arrays: at every batch and head what its row gives.
-/
module

public import proofs.«01_k».proof.Proof.Gen.KernelIdeal.Frame
public import proofs.«01_k».proof.Proof.KernelEntry
import Idealize.ShloMosaic.Lib.Claim
import Idealize.ShloMosaic.Lib.Pointwise
import Idealize.ShloMosaic.Lib.BitcastConvert
import Idealize.ShloMosaic.Lib.Pipeline.ValueKit

@[expose] public section

set_option maxRecDepth 16384

noncomputable section

namespace Cert.KernelIdeal.RefValue

open Idealize.ShloMosaic Idealize.ShloMosaic.TcCoe Idealize.SL.Sem Cert Cert.KernelIdeal Cert.KernelIdeal.Gen

variable (m : (ℓ : Loc nD τ sig) → Buf (Elt Ideal) ℓ) (ρ : Dev nD → PrngReg) (hO : Ok m) (c : Dev nD) (t : Fin grid0.N)

/-- The result columns the kernel leaves, over the arguments. -/
def kOut : Vec Ideal S32x64x512 .bf16 := fun y => (rowOf m c (y 0) (y 1)).kerOut (rowOf m c (y 0) (y 1)).kerLse (y 2)

/-- The logarithms the kernel leaves, over the arguments. -/
def kLse : Vec Ideal S32x64x1 .f32 := fun y => (rowOf m c (y 0) (y 1)).kerLse

theorem emb9 (x : Fin 64) (z : Fin 512) : ((((cfgM m hO).win 9).blk t).view.emb (ix3 0 x z) : S32x64x512.Idx) = ix3 (bat t) x z := by
  have e := (idx t).2.2.2.2.2.2.2.2.2.1
  obtain ⟨h0, h1, h2⟩ := at3 (bat t) x z (congrFun e 0) (congrFun e 1) (congrFun e 2) rfl
  funext a
  apply Fin.ext
  match a with
  | ⟨0, _⟩ => exact h0
  | ⟨1, _⟩ => exact h1
  | ⟨2, _⟩ => exact h2

set_option maxHeartbeats 2000000 in
theorem outs9 (y : S1x64x512.Idx) : (outsAt0 m hO c t).1 y = (rowOf m c (bat t) (y 1)).kerOut (rowOf m c (bat t) (y 1)).kerLse (y 2) := by
  have h := out_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) y
  unfold outsAt0
  exact h.trans (congrArg (fun R : Model.Row => R.kerOut R.kerLse (y 2)) (row_entry m hO c t (y 1)))

theorem read9 (y : S1x64x512.Idx) : (outsAt0 m hO c t).1 y = kOut m c ((((cfgM m hO).win 9).blk t).view.emb y) := by
  have hy : y = ix3 0 (y 1 : Fin 64) (y 2 : Fin 512) := by
    funext a
    match a with
    | ⟨0, _⟩ => exact Subsingleton.elim (α := Fin 1) _ _
    | ⟨1, _⟩ => rfl
    | ⟨2, _⟩ => rfl
  refine (outs9 m hO c t y).trans ?_
  exact (congrArg (kOut m c) ((congrArg (fun y : S1x64x512.Idx => ((((cfgM m hO).win 9).blk t).view.emb y : S32x64x512.Idx)) hy).trans (emb9 m hO t (y 1) (y 2)))).symm

theorem flushed9_eq : (dats m hO 0 c).flushed 9 t = (((cfgM m hO).win 9).blk t).view.read (Elt Ideal) (kOut m c) := by
  show ((cfgM m hO).win 9).cut (grid0.coords t) ((dats m hO 0 c).after 9 t) = _
  rw [after0_9]
  exact funext fun y => read9 m hO c t y

theorem emb10 (x : Fin 64) (z : Fin 1) : ((((cfgM m hO).win 10).blk t).view.emb (ix3 0 x z) : S32x64x1.Idx) = ix3 (bat t) x z := by
  have e := (idx t).2.2.2.2.2.2.2.2.2.2.1
  obtain ⟨h0, h1, h2⟩ := at3 (bat t) x z (congrFun e 0) (congrFun e 1) (congrFun e 2) rfl
  funext a
  apply Fin.ext
  match a with
  | ⟨0, _⟩ => exact h0
  | ⟨1, _⟩ => exact h1
  | ⟨2, _⟩ => exact h2

set_option maxHeartbeats 2000000 in
theorem outs10 (y : S1x64x1.Idx) : (outsAt0 m hO c t).2 y = (rowOf m c (bat t) (y 1)).kerLse := by
  have hy : y = ix3 0 (y 1 : Fin 64) (0 : Fin 1) := by
    funext a
    match a with
    | ⟨0, _⟩ => exact Subsingleton.elim (α := Fin 1) _ _
    | ⟨1, _⟩ => rfl
    | ⟨2, _⟩ => exact Subsingleton.elim (α := Fin 1) _ _
  refine (congrArg (outsAt0 m hO c t).2 hy).trans ?_
  have h := lse_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (y 1)
  unfold outsAt0
  exact h.trans (congrArg (fun R : Model.Row => R.kerLse) (row_entry m hO c t (y 1)))

theorem read10 (y : S1x64x1.Idx) : (outsAt0 m hO c t).2 y = kLse m c ((((cfgM m hO).win 10).blk t).view.emb y) := by
  have hy : y = ix3 0 (y 1 : Fin 64) (0 : Fin 1) := by
    funext a
    match a with
    | ⟨0, _⟩ => exact Subsingleton.elim (α := Fin 1) _ _
    | ⟨1, _⟩ => rfl
    | ⟨2, _⟩ => exact Subsingleton.elim (α := Fin 1) _ _
  refine (outs10 m hO c t y).trans ?_
  exact (congrArg (kLse m c) ((congrArg (fun y : S1x64x1.Idx => ((((cfgM m hO).win 10).blk t).view.emb y : S32x64x1.Idx)) hy).trans (emb10 m hO t (y 1) (0)))).symm

theorem flushed10_eq : (dats m hO 0 c).flushed 10 t = (((cfgM m hO).win 10).blk t).view.read (Elt Ideal) (kLse m c) := by
  show ((cfgM m hO).win 10).cut (grid0.coords t) ((dats m hO 0 c).after 10 t) = _
  rw [after0_10]
  exact funext fun y => read10 m hO c t y

theorem cover9 (i : S32x64x512.Idx) : ∃ t : Fin (cfgM m hO).N, ((cfgM m hO).win 9).flush t = true ∧ i ∈ (((cfgM m hO).win 9).blk t).view.set := by
  have hb : (i 0 : Nat) < 32 := (i 0).isLt
  have h1 : (i 1 : Nat) < 64 := (i 1).isLt
  have h2 : (i 2 : Nat) < 512 := (i 2).isLt
  obtain ⟨t, ht⟩ : ∃ t : Fin grid0.N, t.val = (i 0 : Nat) := ⟨⟨(i 0 : Nat), by rw [N_0]; exact hb⟩, rfl⟩
  refine ⟨t, flush0_9 _ t, ?_⟩
  have e := (idx t).2.2.2.2.2.2.2.2.2.1
  rw [ht] at e
  show i ∈ ((View.whole main_v5_0).slice (((cfgM m hO).win 9).rect t)).set
  erw [View.set_slice_whole]
  refine (Pipeline.Window.mem_rect_iff ((cfgM m hO).win 9) t i (by rfl)).mpr fun a => ?_
  match a with
  | ⟨0, _⟩ =>
    show cc0_transform_9 (grid0.coords t) 0 * 1 ≤ (i 0 : Nat) ∧ (i 0 : Nat) < cc0_transform_9 (grid0.coords t) 0 * 1 + 1
    rw [e]; simp
  | ⟨1, _⟩ =>
    show cc0_transform_9 (grid0.coords t) 1 * 64 ≤ (i 1 : Nat) ∧ (i 1 : Nat) < cc0_transform_9 (grid0.coords t) 1 * 64 + 64
    rw [e]; simpa using h1
  | ⟨2, _⟩ =>
    show cc0_transform_9 (grid0.coords t) 2 * 512 ≤ (i 2 : Nat) ∧ (i 2 : Nat) < cc0_transform_9 (grid0.coords t) 2 * 512 + 512
    rw [e]; simpa using h2

theorem final9 : (dats m hO 0 c).arrAt 9 (cfgM m hO).N = kOut m c :=
  (dats m hO 0 c).arrAt_eq_of_cover 9 (kOut m c) (fun t _ => flushed9_eq m hO c t) (cover9 m hO)

theorem cover10 (i : S32x64x1.Idx) : ∃ t : Fin (cfgM m hO).N, ((cfgM m hO).win 10).flush t = true ∧ i ∈ (((cfgM m hO).win 10).blk t).view.set := by
  have hb : (i 0 : Nat) < 32 := (i 0).isLt
  have h1 : (i 1 : Nat) < 64 := (i 1).isLt
  have h2 : (i 2 : Nat) < 1 := (i 2).isLt
  obtain ⟨t, ht⟩ : ∃ t : Fin grid0.N, t.val = (i 0 : Nat) := ⟨⟨(i 0 : Nat), by rw [N_0]; exact hb⟩, rfl⟩
  refine ⟨t, flush0_10 _ t, ?_⟩
  have e := (idx t).2.2.2.2.2.2.2.2.2.2.1
  rw [ht] at e
  show i ∈ ((View.whole main_v5_1).slice (((cfgM m hO).win 10).rect t)).set
  erw [View.set_slice_whole]
  refine (Pipeline.Window.mem_rect_iff ((cfgM m hO).win 10) t i (by rfl)).mpr fun a => ?_
  match a with
  | ⟨0, _⟩ =>
    show cc0_transform_10 (grid0.coords t) 0 * 1 ≤ (i 0 : Nat) ∧ (i 0 : Nat) < cc0_transform_10 (grid0.coords t) 0 * 1 + 1
    rw [e]; simp
  | ⟨1, _⟩ =>
    show cc0_transform_10 (grid0.coords t) 1 * 64 ≤ (i 1 : Nat) ∧ (i 1 : Nat) < cc0_transform_10 (grid0.coords t) 1 * 64 + 64
    rw [e]; simpa using h1
  | ⟨2, _⟩ =>
    show cc0_transform_10 (grid0.coords t) 2 * 1 ≤ (i 2 : Nat) ∧ (i 2 : Nat) < cc0_transform_10 (grid0.coords t) 2 * 1 + 1
    rw [e]; simpa using h2

theorem final10 : (dats m hO 0 c).arrAt 10 (cfgM m hO).N = kLse m c :=
  (dats m hO 0 c).arrAt_eq_of_cover 10 (kLse m c) (fun t _ => flushed10_eq m hO c t) (cover10 m hO)

end Cert.KernelIdeal.RefValue

end
-- ==== Proof.RefRow.lean ====
/-
  The reference's scores and results, each read at an index.
-/
module

public import proofs.«01_k».proof.Proof.Gen.ReferenceIdeal.Skeleton
public import proofs.«01_k».proof.Proof.Model

@[expose] public section

set_option maxRecDepth 16384

noncomputable section

namespace Cert.ReferenceIdeal.RefValue

open Idealize.ShloMosaic Idealize.SL.Sem Cert Cert.ReferenceIdeal Cert.ReferenceIdeal.Gen

section

variable (x0 : Vec Ideal S32x64x512 .bf16) (x1 : Vec Ideal S32x64x64 .bf16) (x2 : Vec Ideal S32x512x512 .fp8e4m3)
  (x3 : Vec Ideal S32x512x4 .f32) (x4 : Vec Ideal S32x512x64 .bf16) (x5 : Vec Ideal S32x1x1 .i32)
  (x6 : Vec Ideal S32x1x512 .fp8e4m3) (x7 : Vec Ideal S32x1x4 .f32) (x8 : Vec Ideal S32x1x64 .bf16)
  (x9 : Vec Ideal S32x1x512 .i32)

/-- The row of batch `b` and head `h`. -/
def row (b : Fin 32) (h : Fin 64) : Model.Row where
  q i := x0 (ix3 b h i)
  qr r := x1 (ix3 b h r)
  c k i := x2 (ix3 b k i)
  r k r := x4 (ix3 b k r)
  a k g := x3 (ix3 b k g)
  cn i := x6 (ix3 b 0 i)
  an g := x7 (ix3 b 0 g)
  rn r := x8 (ix3 b 0 r)
  ok k := IntOp.andi (IntOp.cmpi .sge (x9 (ix3 b 0 k)) 0#32) (IntOp.cmpi .slt (x9 (ix3 b 0 k)) (x5 (ix3 b 0 0)))

/-- The scores, the new key's last. -/
def scores : FVec Ideal S32x64x513 .f32 :=
  k0_pay8 (k0_pay2 x0 x1) (k0_pay3 x9 x9 x5) (k0_pay5 x2 x3 x4) (k0_pay6 x6) x7 x8

theorem sum_split (f y z : Fin 512 → EReal) :
    ∑ x : Fin 512, f x * (y ⟨x.val / 128 * 128 + x.val % 128, by omega⟩ * z x) = ∑ x, f x * (y x * z x) :=
  Finset.sum_congr rfl fun x _ => congrArg (fun i => f x * (y i * z x))
    (Fin.ext (by show x.val / 128 * 128 + x.val % 128 = x.val; omega))

theorem scores_apply (b : Fin 32) (h : Fin 64) (k : Fin 513) :
    scores x0 x1 x2 x3 x4 x5 x6 x7 x8 x9 (ix3 b h k) = (row x0 x1 x2 x3 x4 x5 x6 x7 x8 x9 b h).refT k := by
  pointwise [scores, k0_pay8, k0_pay7, k0_pay6, k0_pay5, k0_pay4, k0_pay3, k0_pay2]
  unfold Model.Row.refT Model.cat
  split
  · exact congrArg (fun z => Scalar.select _ z _) (congrArg (· * Model.sm) (congrArg (· + _)
      (sum_split (fun i => x0 (ix3 b h i)) (fun i => x2 (ix3 b ⟨k.val, _⟩ i)) fun i => x3 (ix3 b ⟨k.val, _⟩ (Model.grp i)))))
  · have e0 : ∀ hk : k.val - 512 < 1, (⟨k.val - 512, hk⟩ : Fin 1) = 0 := fun hk => Subsingleton.elim _ _
    simp only [e0]
    exact congrArg (· * Model.sm) (congrArg (· + _)
      (sum_split (fun i => x0 (ix3 b h i)) (fun i => x6 (ix3 b 0 i)) fun i => x7 (ix3 b 0 (Model.grp i))))

theorem lse_apply (b : Fin 32) (h : Fin 64) :
    k0_pay9 (F := Ideal) (k0_pay2 x0 x1) (k0_pay3 x9 x9 x5) (k0_pay5 x2 x3 x4) (k0_pay6 x6) x7 x8 (ix3 b h 0)
      = (row x0 x1 x2 x3 x4 x5 x6 x7 x8 x9 b h).lse := by
  unfold k0_pay9
  rw [← scores]
  pointwise
  simp only [scores_apply]
  rfl

theorem out_apply (b : Fin 32) (h : Fin 64) (j : Fin 512) :
    k0_pay1 (F := Ideal) (k0_pay7 (k0_pay6 x6) x7)
      (k0_pay11 (k0_pay2 x0 x1) (k0_pay3 x9 x9 x5) (k0_pay4 x2 x3) (k0_pay5 x2 x3 x4) (k0_pay6 x6) x7 x8)
      (k0_pay12 (k0_pay2 x0 x1) (k0_pay3 x9 x9 x5) (k0_pay5 x2 x3 x4) (k0_pay6 x6) x7 x8)
      (constant S32x64x512 .f32 0x00000000#32) (ix3 b h j) = (row x0 x1 x2 x3 x4 x5 x6 x7 x8 x9 b h).out j := by
  have hl := lse_apply x0 x1 x2 x3 x4 x5 x6 x7 x8 x9 b h
  unfold k0_pay11 k0_pay12 k0_pay10
  rw [← scores]
  generalize k0_pay9 (F := Ideal) (k0_pay2 x0 x1) (k0_pay3 x9 x9 x5) (k0_pay5 x2 x3 x4) (k0_pay6 x6) x7 x8 = lse at hl ⊢
  pointwise [k0_pay1, k0_pay7, k0_pay6, k0_pay4]
  simp only [scores_apply, hl]
  rfl

end

end Cert.ReferenceIdeal.RefValue

end
-- ==== Proof.RefEntry.lean ====
/-
  The reference's host line read at an index, and its blocks: the whole arrays.
-/
module

public import proofs.«01_k».proof.Proof.Gen.ReferenceIdeal.Value
public import proofs.«01_k».proof.Proof.ArgRow
public import proofs.«01_k».proof.Proof.RefRow
import Idealize.ShloMosaic.Lib.Claim
import Idealize.ShloMosaic.Lib.Pointwise
import Idealize.ShloMosaic.Lib.BitcastConvert
import Idealize.ShloMosaic.Lib.Pipeline.ValueKit
import Idealize.ShloMosaic.Lib.Pipeline.ValueKit.Tiles

@[expose] public section

set_option maxRecDepth 16384

noncomputable section

namespace Cert.ReferenceIdeal.RefValue

open Idealize.ShloMosaic Idealize.ShloMosaic.TcCoe Idealize.SL.Sem Cert Cert.ReferenceIdeal Cert.ReferenceIdeal.Gen

variable (m : (ℓ : Loc nD τ sig) → Buf (Elt Ideal) ℓ) (c : Dev nD) (t : Fin cfg0.N)

theorem V0 (h : Fin 64) (i : Fin 512) (b : Fin 32) : (V m c main_v9 : Vec Ideal S32x64x512 .bf16) (ix3 b h i) = (m ((c : Thread nD τ).loc main_arg0) : Vec Ideal S32x1x64x512 .bf16) (ix4 b 0 h i) := by
  entry_read
  pointwise
theorem V1 (h : Fin 64) (i : Fin 64) (b : Fin 32) : (V m c main_v10 : Vec Ideal S32x64x64 .bf16) (ix3 b h i) = (m ((c : Thread nD τ).loc main_arg1) : Vec Ideal S32x1x64x64 .bf16) (ix4 b 0 h i) := by
  entry_read
  pointwise
theorem V2 (k i : Fin 512) (b : Fin 32) : (V m c main_v0 : Vec Ideal S32x512x512 .fp8e4m3) (ix3 b k i) = Ideal.ofBits .fp8e4m3 ((m ((c : Thread nD τ).loc main_arg2) : Vec Ideal S32x512x512 .i8) (ix3 b k i) : BitVec 8) := by
  entry_read
  rfl
theorem V6 (i : Fin 512) (b : Fin 32) : (V m c main_v1 : Vec Ideal S32x1x512 .fp8e4m3) (ix3 b 0 i) = Ideal.ofBits .fp8e4m3 ((m ((c : Thread nD τ).loc main_arg6) : Vec Ideal S32x1x512 .i8) (ix3 b 0 i) : BitVec 8) := by
  entry_read
  rfl
theorem V5 (b : Fin 32) : (V m c main_v11 : Vec Ideal S32x1x1 .i32) (ix3 b 0 0) = (m ((c : Thread nD τ).loc main_arg5) : Vec Ideal S32 .i32) (ix1 b) := by
  entry_read
  pointwise
theorem V3 (k : Fin 512) (g : Fin 4) (b : Fin 32) : (V m c main_v4 : Vec Ideal S32x512x4 .f32) (ix3 b k g)
    = (m ((c : Thread nD τ).loc main_arg4) : Vec Ideal S32x16x128 .f32) (ix3 b ⟨4 * (k.val / 128) + g.val, by omega⟩ ⟨k.val % 128, by omega⟩) := by
  entry_read
  pointwise
  blk_ext []
theorem V4 (k : Fin 512) (r : Fin 64) (b : Fin 32) : (V m c main_v8 : Vec Ideal S32x512x64 .bf16) (ix3 b k r)
    = Ideal.ofBits .bf16 (((m ((c : Thread nD τ).loc main_arg3) : Vec Ideal S32x128x128 .i32) (ix3 b ⟨32 * (k.val / 128) + r.val / 2, by omega⟩ ⟨k.val % 128, by omega⟩) : BitVec 32).extractLsb' (16 * (r.val % 2)) 16) := by
  entry_read
  pointwise
  refine congrArg₂ (fun n (w : BitVec 32) => Ideal.ofBits .bf16 (w.extractLsb' n 16)) (Nat.mul_comm _ _) (congrArg _ ?_)
  funext a
  apply Fin.ext
  match a with
  | ⟨0, _⟩ => rfl
  | ⟨1, _⟩ => show k.val / 128 * 32 + r.val / 2 = 32 * (k.val / 128) + r.val / 2; omega
  | ⟨2, _⟩ => rfl

/-- Every window's block index at the one point (decided). -/
theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] :=
  (by decide +kernel : ∀ t : Fin grid0.N, _)

theorem blk0 : iblk m c 0 t = (V m c main_v9 : Vec Ideal S32x64x512 .bf16) := by
  blk_ext! [iblk, idx t]
theorem blk1 : iblk m c 1 t = (V m c main_v10 : Vec Ideal S32x64x64 .bf16) := by
  blk_ext! [iblk, idx t]
theorem blk2 : iblk m c 2 t = (V m c main_v0 : Vec Ideal S32x512x512 .fp8e4m3) := by
  blk_ext! [iblk, idx t]
theorem blk3 : iblk m c 3 t = (V m c main_v4 : Vec Ideal S32x512x4 .f32) := by
  blk_ext! [iblk, idx t]
theorem blk4 : iblk m c 4 t = (V m c main_v8 : Vec Ideal S32x512x64 .bf16) := by
  blk_ext! [iblk, idx t]
theorem blk5 : iblk m c 5 t = (V m c main_v11 : Vec Ideal S32x1x1 .i32) := by
  blk_ext! [iblk, idx t]
theorem blk6 : iblk m c 6 t = (V m c main_v1 : Vec Ideal S32x1x512 .fp8e4m3) := by
  blk_ext! [iblk, idx t]
theorem blk7 : iblk m c 7 t = (V m c main_arg7 : Vec Ideal S32x1x4 .f32) := by
  blk_ext! [iblk, idx t]
theorem blk8 : iblk m c 8 t = (V m c main_arg8 : Vec Ideal S32x1x64 .bf16) := by
  blk_ext! [iblk, idx t]
theorem blk9 : iblk m c 9 t = (V m c main_arg9 : Vec Ideal S32x1x512 .i32) := by
  blk_ext! [iblk, idx t]

end Cert.ReferenceIdeal.RefValue

end
-- ==== Proof.RefArray.lean ====
/-
  The reference's result arrays: at every batch and head what its row gives.
-/
module

public import proofs.«01_k».proof.Proof.Gen.ReferenceIdeal.Value
public import proofs.«01_k».proof.Proof.ArgRow
public import proofs.«01_k».proof.Proof.RefRow
public import proofs.«01_k».proof.Proof.RefEntry
import Idealize.ShloMosaic.Lib.Claim
import Idealize.ShloMosaic.Lib.Pointwise
import Idealize.ShloMosaic.Lib.BitcastConvert
import Idealize.ShloMosaic.Lib.Pipeline.ValueKit
import Idealize.ShloMosaic.Lib.Pipeline.ValueKit.Tiles

@[expose] public section

set_option maxRecDepth 16384

noncomputable section

namespace Cert.ReferenceIdeal.RefValue

open Idealize.ShloMosaic Idealize.ShloMosaic.TcCoe Idealize.SL.Sem Cert Cert.ReferenceIdeal Cert.ReferenceIdeal.Gen

theorem hz3 : (![0, 0, 0] : Fin 3 → Nat) = fun _ => 0 := by decide

section Block

variable (x0 : Vec Ideal S32x64x512 .bf16) (x1 : Vec Ideal S32x64x64 .bf16) (x2 : Vec Ideal S32x512x512 .fp8e4m3)
  (x3 : Vec Ideal S32x512x4 .f32) (x4 : Vec Ideal S32x512x64 .bf16) (x5 : Vec Ideal S32x1x1 .i32)
  (x6 : Vec Ideal S32x1x512 .fp8e4m3) (x7 : Vec Ideal S32x1x4 .f32) (x8 : Vec Ideal S32x1x64 .bf16)
  (x9 : Vec Ideal S32x1x512 .i32)

theorem out_block (b : Fin 32) (h : Fin 64) (j : Fin 512) : out0_10 x0 x1 x2 x3 x4 x5 x6 x7 x8 x9 (ix3 b h j) = (row x0 x1 x2 x3 x4 x5 x6 x7 x8 x9 b h).out j := by
  have e0 : View.ld x0 r0_0 = x0 := View.ld_unit_zero hz3 _ _
  have e1 : View.ld x1 r0_1 = x1 := View.ld_unit_zero hz3 _ _
  have e2 : View.ld x2 r0_4 = x2 := View.ld_unit_zero hz3 _ _
  have e3 : View.ld x3 r0_5 = x3 := View.ld_unit_zero hz3 _ _
  have e4 : View.ld x4 r0_6 = x4 := View.ld_unit_zero hz3 _ _
  have e5 : View.ld x5 r0_3 = x5 := View.ld_unit_zero hz3 _ _
  have e6 : View.ld x6 r0_2 = x6 := View.ld_unit_zero hz3 _ _
  have e7 : View.ld x7 r0_7 = x7 := View.ld_unit_zero hz3 _ _
  have e8 : View.ld x8 r0_8 = x8 := View.ld_unit_zero hz3 _ _
  have e9 : View.ld x9 r0_2 = x9 := View.ld_unit_zero hz3 _ _
  refine Eq.trans ?_ (out_apply x0 x1 x2 x3 x4 x5 x6 x7 x8 x9 b h j)
  unfold_out out0_10
  rw [View.canon_unit_zero hz3]
  simp only [e0, e1, e2, e3, e4, e5, e6, e7, e8, e9]

theorem lse_block (b : Fin 32) (h : Fin 64) : out0_11 x0 x1 x2 x3 x4 x5 x6 x7 x8 x9 (ix3 b h 0) = (row x0 x1 x2 x3 x4 x5 x6 x7 x8 x9 b h).lse := by
  have e0 : View.ld x0 r0_0 = x0 := View.ld_unit_zero hz3 _ _
  have e1 : View.ld x1 r0_1 = x1 := View.ld_unit_zero hz3 _ _
  have e2 : View.ld x2 r0_4 = x2 := View.ld_unit_zero hz3 _ _
  have e3 : View.ld x3 r0_5 = x3 := View.ld_unit_zero hz3 _ _
  have e4 : View.ld x4 r0_6 = x4 := View.ld_unit_zero hz3 _ _
  have e5 : View.ld x5 r0_3 = x5 := View.ld_unit_zero hz3 _ _
  have e6 : View.ld x6 r0_2 = x6 := View.ld_unit_zero hz3 _ _
  have e7 : View.ld x7 r0_7 = x7 := View.ld_unit_zero hz3 _ _
  have e8 : View.ld x8 r0_8 = x8 := View.ld_unit_zero hz3 _ _
  have e9 : View.ld x9 r0_2 = x9 := View.ld_unit_zero hz3 _ _
  refine Eq.trans ?_ (lse_apply x0 x1 x2 x3 x4 x5 x6 x7 x8 x9 b h)
  unfold_out out0_11
  rw [View.canon_unit_zero hz3]
  simp only [e0, e1, e2, e3, e4, e5, e6, e7, e8, e9]

theorem out_at (y : S32x64x512.Idx) : out0_10 x0 x1 x2 x3 x4 x5 x6 x7 x8 x9 y = (row x0 x1 x2 x3 x4 x5 x6 x7 x8 x9 (y 0) (y 1)).out (y 2) := by
  have e : y = ix3 (y 0 : Fin 32) (y 1 : Fin 64) (y 2 : Fin 512) := by
    funext a
    match a with
    | ⟨0, _⟩ => rfl
    | ⟨1, _⟩ => rfl
    | ⟨2, _⟩ => rfl
  exact (congrArg (out0_10 x0 x1 x2 x3 x4 x5 x6 x7 x8 x9) e).trans (out_block x0 x1 x2 x3 x4 x5 x6 x7 x8 x9 (y 0) (y 1) (y 2))

theorem lse_at (y : S32x64x1.Idx) : out0_11 x0 x1 x2 x3 x4 x5 x6 x7 x8 x9 y = (row x0 x1 x2 x3 x4 x5 x6 x7 x8 x9 (y 0) (y 1)).lse := by
  have e : y = ix3 (y 0 : Fin 32) (y 1 : Fin 64) 0 := by
    funext a
    match a with
    | ⟨0, _⟩ => rfl
    | ⟨1, _⟩ => rfl
    | ⟨2, _⟩ => exact Subsingleton.elim (α := Fin 1) _ _
  exact (congrArg (out0_11 x0 x1 x2 x3 x4 x5 x6 x7 x8 x9) e).trans (lse_block x0 x1 x2 x3 x4 x5 x6 x7 x8 x9 (y 0) (y 1))

end Block

variable (m : (ℓ : Loc nD τ sig) → Buf (Elt Ideal) ℓ) (ρ : Dev nD → PrngReg) (c : Dev nD) (t : Fin cfg0.N)

/-- The row of batch `b` and head `h` in the arguments of device `c`. -/
abbrev rowOf (b : Fin 32) (h : Fin 64) : Model.Row :=
  Cert.KernelIdeal.RefValue.argRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) b h

theorem row_entry (b : Fin 32) (h : Fin 64) : row (iblk m c 0 t) (iblk m c 1 t) (iblk m c 2 t) (iblk m c 3 t) (iblk m c 4 t) (iblk m c 5 t) (iblk m c 6 t) (iblk m c 7 t) (iblk m c 8 t) (iblk m c 9 t) b h = rowOf m c b h := by
  refine Model.Row.ext' ?_ ?_ ?_ ?_ ?_ ?_ ?_ ?_ ?_
  · exact fun i => (congrFun (blk0 m c t) _).trans (V0 m c h i b)
  · exact fun i => (congrFun (blk1 m c t) _).trans (V1 m c h i b)
  · exact fun k i => (congrFun (blk2 m c t) _).trans (V2 m c k i b)
  · exact fun k r => (congrFun (blk4 m c t) _).trans (V4 m c k r b)
  · exact fun k g => (congrFun (blk3 m c t) _).trans (V3 m c k g b)
  · exact fun i => (congrFun (blk6 m c t) _).trans (V6 m c i b)
  · exact fun g => (congrFun (blk7 m c t) _).trans (congrFun (V_main_arg7 m c) _)
  · exact fun g => (congrFun (blk8 m c t) _).trans (congrFun (V_main_arg8 m c) _)
  · intro k
    have e9 := (congrFun (blk9 m c t) (ix3 b 0 k)).trans (congrFun (V_main_arg9 m c) _)
    have e5 := (congrFun (blk5 m c t) (ix3 b 0 0)).trans (V5 m c b)
    exact congrArg₂ (fun i n : BitVec 32 => IntOp.andi (IntOp.cmpi .sge i 0#32) (IntOp.cmpi .slt i n)) e9 e5

/-- The result columns the reference leaves, over the arguments. -/
def rOut : Vec Ideal S32x64x512 .bf16 := fun y => (rowOf m c (y 0) (y 1)).out (y 2)

/-- The logarithms the reference leaves, over the arguments. -/
def rLse : Vec Ideal S32x64x1 .f32 := fun y => (rowOf m c (y 0) (y 1)).lse

theorem final10 : (dats m 0 c).arrAt 10 cfg0.N = rOut m c := by
  refine (dats m 0 c).arrAt_eq_of_after_last 10 t0_0 (by decide +kernel) _ fun y => ?_
  blk_simp
  rw [after0_10]
  have h := out_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) y
  exact h.trans (congrArg (fun R : Model.Row => R.out (y 2)) (row_entry m c t0_0 (y 0) (y 1)))

theorem final11 : (dats m 0 c).arrAt 11 cfg0.N = rLse m c := by
  refine (dats m 0 c).arrAt_eq_of_after_last 11 t0_0 (by decide +kernel) _ fun y => ?_
  blk_simp
  rw [after0_11]
  have h := lse_at (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) y
  exact h.trans (congrArg (fun R : Model.Row => R.lse) (row_entry m c t0_0 (y 0) (y 1)))

end Cert.ReferenceIdeal.RefValue

end
-- ==== Proof.Algebraic.lean ====
/-
  The value claim: on finite arguments the kernel's two results are the reference's.
-/
module

public import proofs.«01_k».proof.Defs
public import proofs.«01_k».proof.Proof.Frames
public import proofs.«01_k».proof.Proof.Finite
public import proofs.«01_k».proof.Proof.KernelArray
public import proofs.«01_k».proof.Proof.RefArray
import Idealize.ShloMosaic.Lib.Claim

@[expose] public section

set_option maxRecDepth 16384

noncomputable section

namespace Cert.Proof

open Idealize.ShloMosaic Idealize.ShloMosaic.TcCoe Idealize.SL.Sem Cert

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Under the precondition every row of the memory is finite. -/
theorem row_finite (hpre : Pre_KernelIdeal_finite m) (c : Dev Cert.KernelIdeal.nD) (b : Fin 32) (h : Fin 64) :
    (Cert.KernelIdeal.RefValue.rowOf m c b h).Finite := by
  obtain ⟨p2, p6, p0, p1, p3, p4, p7, p8⟩ := hpre c
  exact Cert.KernelIdeal.RefValue.argRow_finite _ _ _ _ _ _ _ _ _ _ p2 p6 p0 p1 p3 p4 p7 p8 b h

/-- The kernel's output rows are the reference's. -/
theorem out_eq (hpre : Pre_KernelIdeal_finite m) (c : Dev Cert.KernelIdeal.nD)
    (hrow : ∀ b h, Cert.ReferenceIdeal.RefValue.rowOf m' c b h = Cert.KernelIdeal.RefValue.rowOf m c b h) :
    Cert.ReferenceIdeal.RefValue.rOut m' c = Cert.KernelIdeal.RefValue.kOut m c := by
  funext y
  exact (congrArg (fun R : Model.Row => R.out (y 2)) (hrow (y 0) (y 1))).trans
    (Model.Row.kerOut_eq (row_finite m hpre c (y 0) (y 1)) (y 2)).symm

/-- The kernel's logarithms of the sums are the reference's. -/
theorem lse_eq (hpre : Pre_KernelIdeal_finite m) (c : Dev Cert.KernelIdeal.nD)
    (hrow : ∀ b h, Cert.ReferenceIdeal.RefValue.rowOf m' c b h = Cert.KernelIdeal.RefValue.rowOf m c b h) :
    Cert.ReferenceIdeal.RefValue.rLse m' c = Cert.KernelIdeal.RefValue.kLse m c := by
  funext y
  exact (congrArg (fun R : Model.Row => R.lse) (hrow (y 0) (y 1))).trans
    (Model.Row.kerLse_eq (row_finite m hpre c (y 0) (y 1))).symm

/-- The kernel's run ends with its two results at the rows' values. -/
theorem kernel_results (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v5_0) = Cert.KernelIdeal.RefValue.kOut m c
        ∧ r.2.mem ((c.tc : Thread Cert.KernelIdeal.nD Cert.KernelIdeal.τ).loc Cert.KernelIdeal.main_v5_1) = Cert.KernelIdeal.RefValue.kLse m c) :=
  (θ_run _ _ _).mono (fun _ h c =>
    ⟨((h c).1 9).trans (Cert.KernelIdeal.RefValue.final9 m (ok_ki m) c),
      ((h c).1 10).trans (Cert.KernelIdeal.RefValue.final10 m (ok_ki m) c)⟩) (Cert.KernelIdeal.Gen.run_main m g (ok_ki m))

/-- The value claim. -/
theorem algebraic : algebraic_KernelIdeal_ReferenceIdeal_pre_finite := by
  intro m g m' g' hpre hagree
  have hrow : ∀ (c : Dev Cert.KernelIdeal.nD) b h, Cert.ReferenceIdeal.RefValue.rowOf m' c b h = Cert.KernelIdeal.RefValue.rowOf m c b h := by
    intro c b h
    obtain ⟨a0, a1, a2, a3, a4, a5, a6, a7, a8, a9⟩ := hagree c
    unfold Cert.ReferenceIdeal.RefValue.rowOf Cert.KernelIdeal.RefValue.rowOf
    rw [a0, a1, a2, a3, a4, a5, a6, a7, a8, a9]
  have h0 := fun c => out_eq m m' hpre c (hrow c)
  have h1 := fun c => lse_eq m m' hpre c (hrow c)
  clear hrow hagree
  refine ⟨fun c => Cert.KernelIdeal.RefValue.kOut m c, fun c => Cert.KernelIdeal.RefValue.kLse m c, ?_, ?_⟩
  · exact (θ_run _ _ _).mono (fun r h c => ⟨(h.1 c).1, (h.1 c).2, h.2 c⟩)
      (θ_run_and (kernel_results m g) (Cert.KernelIdeal.Gen.unchanged m g (ok_ki m)))
  · exact (θ_run _ _ _).mono (fun r h c =>
      ⟨(h c).1.trans ((Cert.ReferenceIdeal.RefValue.final10 m' c).trans (h0 c)),
        (h c).2.1.trans ((Cert.ReferenceIdeal.RefValue.final11 m' c).trans (h1 c)), (h c).2.2⟩)
      (Cert.ReferenceIdeal.Value.run_blocks m' g')

end Cert.Proof

end
-- ==== Proof.lean ====
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_finite.Hand.facts,
    frame_k, frame_ki, frame_ki_pre, frame_ri, frame_ri_pre, trivial, algebraic⟩

end Cert.Proof

end
